-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S16x512x256 : Shape := ⟨3, ![16, 512, 256]⟩
abbrev S16x256x512 : Shape := ⟨3, ![16, 256, 512]⟩
abbrev S15 : Shape := ⟨1, ![15]⟩
abbrev S_ : Shape := ⟨0, ![]⟩
abbrev S1x512x256 : Shape := ⟨3, ![1, 512, 256]⟩
abbrev S1x256x512 : Shape := ⟨3, ![1, 256, 512]⟩
abbrev S1 : Shape := ⟨1, ![1]⟩
abbrev S128x128 : Shape := ⟨2, ![128, 128]⟩
abbrev S128 : Shape := ⟨1, ![128]⟩
abbrev S128x1 : Shape := ⟨2, ![128, 1]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x64x64, .bf16⟩
  | .local _ .vmem, ⟨3, _⟩ => ⟨S2x128x64x64, .bf16⟩
  | .local _ .vmem, ⟨4, _⟩ => ⟨S256x512, .bf16⟩
  | .local _ .vmem, ⟨5, _⟩ => ⟨S2x128x512, .f32⟩
  | .local _ .vmem, ⟨6, _⟩ => ⟨S16x512x256, .bf16⟩
  | .local _ .vmem, ⟨7, _⟩ => ⟨S16x256x512, .bf16⟩
  | .local _ .vmem, ⟨8, _⟩ => ⟨S2x128x64x64, .bf16⟩
  | .local _ .vmem, ⟨9, _⟩ => ⟨S2x128x64x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : Index := Scalar.indexCast v2
  let c0_11 : Index := 0#32
  let c0_12 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : Index := Scalar.indexCast v2
  let c0_15 : Index := 0#32
  let c0_16 : Index := 0#32
  ![v21.toNat, 0, 0]
def k0_off3 (d0 : Dev nD) (c0_i32_17 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v25 : BitVec 32 := Scalar.subi v2 c0_i32_17
  let c16_i32_18 : BitVec 32 := 16#32
  let v26 : BitVec 32 := Scalar.addi v25 c16_i32_18
  let c16_i32_19 : BitVec 32 := 16#32
  let v27 : BitVec 32 := Scalar.remsi v26 c16_i32_19
  let c0_i32_26 : BitVec 32 := 0#32
  let c0_i32_27 : BitVec 32 := 0#32
  ![v27.toNat, 0, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v30 : BitVec 32 := Scalar.muli v7 c1_i32_24
  let v31 : BitVec 32 := Scalar.addi c0_i32_25 v30
  v31.toNat
def k0_off4 (d0 : Dev nD) (c0_i32_20 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v28 : BitVec 32 := Scalar.addi v2 c0_i32_20
  let c16_i32_21 : BitVec 32 := 16#32
  let v29 : BitVec 32 := Scalar.remsi v28 c16_i32_21
  let c0_i32_34 : BitVec 32 := 0#32
  let c0_i32_35 : BitVec 32 := 0#32
  ![v29.toNat, 0, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_32 : BitVec 32 := 1#32
  let v40 : BitVec 32 := Scalar.muli v5 c1_i32_32
  let v41 : BitVec 32 := Scalar.addi c0_i32_33 v40
  v41.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_75 : BitVec 32 := 1#32
  let v83 : BitVec 32 := Scalar.muli v7 c1_i32_75
  let v84 : BitVec 32 := Scalar.addi c0_i32_76 v83
  v84.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_83 : BitVec 32 := 1#32
  let v93 : BitVec 32 := Scalar.muli v5 c1_i32_83
  let v94 : BitVec 32 := Scalar.addi c0_i32_84 v93
  v94.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_126 : BitVec 32 := 1#32
  let v136 : BitVec 32 := Scalar.muli v7 c1_i32_126
  let v137 : BitVec 32 := Scalar.addi c0_i32_127 v136
  v137.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_134 : BitVec 32 := 1#32
  let v146 : BitVec 32 := Scalar.muli v5 c1_i32_134
  let v147 : BitVec 32 := Scalar.addi c0_i32_135 v146
  v147.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_176 : BitVec 32 := 1#32
  let v189 : BitVec 32 := Scalar.muli v7 c1_i32_176
  let v190 : BitVec 32 := Scalar.addi c0_i32_177 v189
  v190.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_184 : BitVec 32 := 1#32
  let v199 : BitVec 32 := Scalar.muli v5 c1_i32_184
  let v200 : BitVec 32 := Scalar.addi c0_i32_185 v199
  v200.toNat
def k0_dev11 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_226 : BitVec 32 := 1#32
  let v242 : BitVec 32 := Scalar.muli v7 c1_i32_226
  let v243 : BitVec 32 := Scalar.addi c0_i32_227 v242
  v243.toNat
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_234 : BitVec 32 := 1#32
  let v252 : BitVec 32 := Scalar.muli v5 c1_i32_234
  let v253 : BitVec 32 := Scalar.addi c0_i32_235 v252
  v253.toNat
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_276 : BitVec 32 := 1#32
  let v295 : BitVec 32 := Scalar.muli v7 c1_i32_276
  let v296 : BitVec 32 := Scalar.addi c0_i32_277 v295
  v296.toNat
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_284 : BitVec 32 := 1#32
  let v305 : BitVec 32 := Scalar.muli v5 c1_i32_284
  let v306 : BitVec 32 := Scalar.addi c0_i32_285 v305
  v306.toNat
def k0_dev15 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_326 : BitVec 32 := 1#32
  let v348 : BitVec 32 := Scalar.muli v7 c1_i32_326
  let v349 : BitVec 32 := Scalar.addi c0_i32_327 v348
  v349.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_334 : BitVec 32 := 1#32
  let v358 : BitVec 32 := Scalar.muli v5 c1_i32_334
  let v359 : BitVec 32 := Scalar.addi c0_i32_335 v358
  v359.toNat
def k0_dev17 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_376 : BitVec 32 := 1#32
  let v401 : BitVec 32 := Scalar.muli v7 c1_i32_376
  let v402 : BitVec 32 := Scalar.addi c0_i32_377 v401
  v402.toNat
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_384 : BitVec 32 := 1#32
  let v411 : BitVec 32 := Scalar.muli v5 c1_i32_384
  let v412 : BitVec 32 := Scalar.addi c0_i32_385 v411
  v412.toNat
def k0_dev19 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_426 : BitVec 32 := 1#32
  let v454 : BitVec 32 := Scalar.muli v7 c1_i32_426
  let v455 : BitVec 32 := Scalar.addi c0_i32_427 v454
  v455.toNat
def k0_dev20 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_434 : BitVec 32 := 1#32
  let v464 : BitVec 32 := Scalar.muli v5 c1_i32_434
  let v465 : BitVec 32 := Scalar.addi c0_i32_435 v464
  v465.toNat
def k0_dev21 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_476 : BitVec 32 := 1#32
  let v507 : BitVec 32 := Scalar.muli v7 c1_i32_476
  let v508 : BitVec 32 := Scalar.addi c0_i32_477 v507
  v508.toNat
def k0_dev22 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_484 : BitVec 32 := 1#32
  let v517 : BitVec 32 := Scalar.muli v5 c1_i32_484
  let v518 : BitVec 32 := Scalar.addi c0_i32_485 v517
  v518.toNat
def k0_dev23 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_526 : BitVec 32 := 1#32
  let v560 : BitVec 32 := Scalar.muli v7 c1_i32_526
  let v561 : BitVec 32 := Scalar.addi c0_i32_527 v560
  v561.toNat
def k0_dev24 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_534 : BitVec 32 := 1#32
  let v570 : BitVec 32 := Scalar.muli v5 c1_i32_534
  let v571 : BitVec 32 := Scalar.addi c0_i32_535 v570
  v571.toNat
def k0_dev25 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_576 : BitVec 32 := 1#32
  let v613 : BitVec 32 := Scalar.muli v7 c1_i32_576
  let v614 : BitVec 32 := Scalar.addi c0_i32_577 v613
  v614.toNat
def k0_dev26 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_584 : BitVec 32 := 1#32
  let v623 : BitVec 32 := Scalar.muli v5 c1_i32_584
  let v624 : BitVec 32 := Scalar.addi c0_i32_585 v623
  v624.toNat
def k0_dev27 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_626 : BitVec 32 := 1#32
  let v666 : BitVec 32 := Scalar.muli v7 c1_i32_626
  let v667 : BitVec 32 := Scalar.addi c0_i32_627 v666
  v667.toNat
def k0_dev28 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_634 : BitVec 32 := 1#32
  let v676 : BitVec 32 := Scalar.muli v5 c1_i32_634
  let v677 : BitVec 32 := Scalar.addi c0_i32_635 v676
  v677.toNat
def k0_dev29 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_676 : BitVec 32 := 1#32
  let v719 : BitVec 32 := Scalar.muli v7 c1_i32_676
  let v720 : BitVec 32 := Scalar.addi c0_i32_677 v719
  v720.toNat
def k0_dev30 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_684 : BitVec 32 := 1#32
  let v729 : BitVec 32 := Scalar.muli v5 c1_i32_684
  let v730 : BitVec 32 := Scalar.addi c0_i32_685 v729
  v730.toNat
def k0_dev31 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_726 : BitVec 32 := 1#32
  let v772 : BitVec 32 := Scalar.muli v7 c1_i32_726
  let v773 : BitVec 32 := Scalar.addi c0_i32_727 v772
  v773.toNat
def k0_dev32 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_734 : BitVec 32 := 1#32
  let v782 : BitVec 32 := Scalar.muli v5 c1_i32_734
  let v783 : BitVec 32 := Scalar.addi c0_i32_735 v782
  v783.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x4096 : Shape := ⟨2, ![512, 4096]⟩
abbrev S2x128x64x64 : Shape := ⟨4, ![2, 128, 64, 64]⟩
abbrev S4096x512 : Shape := ⟨2, ![4096, 512]⟩
abbrev S2x2048x4096 : Shape := ⟨3, ![2, 2048, 4096]⟩
abbrev S2x2048x64x64 : Shape := ⟨4, ![2, 2048, 64, 64]⟩
abbrev S2048 : Shape := ⟨1, ![2048]⟩
abbrev S_ : Shape := ⟨0, ![]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S2x64x2048x128 : Shape := ⟨4, ![2, 64, 2048, 128]⟩
abbrev S1x1x2048x128 : Shape := ⟨4, ![1, 1, 2048, 128]⟩
abbrev S2x64x2048 : Shape := ⟨3, ![2, 64, 2048]⟩
abbrev S2x64x2048x1 : Shape := ⟨4, ![2, 64, 2048, 1]⟩
abbrev S1x1x2048x1 : Shape := ⟨4, ![1, 1, 2048, 1]⟩
abbrev S2x64x64x2048 : Shape := ⟨4, ![2, 64, 64, 2048]⟩

abbrev nBuf : Space → Nat
  | .hbm => 140
  | .vmem => 0
  | .smem => 0
  | _ => 0

abbrev hbmTy0_0 (i : Nat) : BufTy := match i % 128 with
  | 0 => ⟨S2x2048x512, .bf16⟩
  | 1 => ⟨S512x4096, .bf16⟩
  | 2 => ⟨S2x128x64x64, .bf16⟩
  | 3 => ⟨S2x128x64x64, .bf16⟩
  | 4 => ⟨S4096x512, .bf16⟩
  | 5 => ⟨S2x2048x4096, .f32⟩
  | 6 => ⟨S2x2048x4096, .bf16⟩
  | 7 => ⟨S2x2048x64x64, .bf16⟩
  | 8 => ⟨S2048, .i32⟩
  | 9 => ⟨S_, .i32⟩
  | 10 => ⟨S_, .i32⟩
  | 11 => ⟨S2048, .i32⟩
  | 12 => ⟨S2048, .i32⟩
  | 13 => ⟨S2048, .i32⟩
  | 14 => ⟨S_, .i32⟩
  | 15 => ⟨S2048, .i32⟩
  | 16 => ⟨S2048, .i1⟩
  | 17 => ⟨S2048, .i32⟩
  | 18 => ⟨S2048, .i32⟩
  | 19 => ⟨S_, .i32⟩
  | 20 => ⟨S2048, .i32⟩
  | 21 => ⟨S2048, .i1⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S1x128, .i32⟩
  | 48 => ⟨S2048x128, .i32⟩
  | 49 => ⟨S2048x128, .i32⟩
  | 50 => ⟨S2048x128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S2048x1, .i32⟩
  | 80 => ⟨S2048x1, .i32⟩
  | 81 => ⟨S_, .i32⟩
  | 82 => ⟨S2048x1, .i32⟩
  | 83 => ⟨S2048x1, .i1⟩
  | 84 => ⟨S_, .i32⟩
  | 85 => ⟨S2048x1, .i32⟩
  | 86 => ⟨S2048x1, .i1⟩
  | 87 => ⟨S_, .i32⟩
  | 88 => ⟨S_, .i1⟩
  | 89 => ⟨S2048x1, .i1⟩
  | 90 => ⟨S2048x1, .i1⟩
  | 91 => ⟨S2048x1, .i1⟩
  | 92 => ⟨S2048x1, .i32⟩
  | 93 => ⟨S2048x1, .i32⟩
  | 94 => ⟨S2048x1, .i32⟩
  | 95 => ⟨S2048x128, .i32⟩
  | 96 => ⟨S2048x128, .i32⟩
  | 97 => ⟨S2048x128, .i1⟩
  | 98 => ⟨S2048x128, .i1⟩
  | 99 => ⟨S2x64x2048x128, .f32⟩
  | 100 => ⟨S2x64x2048x128, .bf16⟩
  | 101 => ⟨S2x64x2048x128, .f32⟩
  | 102 => ⟨S_, .f32⟩
  | 103 => ⟨S2x64x2048x128, .f32⟩
  | 104 => ⟨S2x64x2048x128, .f32⟩
  | 105 => ⟨S1x1x2048x128, .i1⟩
  | 106 => ⟨S_, .f32⟩
  | 107 => ⟨S_, .f32⟩
  | 108 => ⟨S2x64x2048x128, .i1⟩
  | 109 => ⟨S2x64x2048x128, .f32⟩
  | 110 => ⟨S2x64x2048x128, .f32⟩
  | 111 => ⟨S_, .f32⟩
  | 112 => ⟨S2x64x2048, .f32⟩
  | 113 => ⟨S2x64x2048x1, .f32⟩
  | 114 => ⟨S2x64x2048x128, .f32⟩
  | 115 => ⟨S2x64x2048x128, .f32⟩
  | 116 => ⟨S2x64x2048x128, .f32⟩
  | 117 => ⟨S_, .i1⟩
  | 118 => ⟨S2048, .i1⟩
  | 119 => ⟨S1x1x2048x1, .i1⟩
  | 120 => ⟨S_, .f32⟩
  | 121 => ⟨S2x64x2048, .f32⟩
  | 122 => ⟨S2x64x2048x1, .f32⟩
  | 123 => ⟨S_, .f32⟩
  | 124 => ⟨S_, .f32⟩
  | 125 => ⟨S2x64x2048x1, .i1⟩
  | 126 => ⟨S2x64x2048x1, .f32⟩
  | 127 => ⟨S2x64x2048x1, .f32⟩
  | _ => ⟨S2x2048x512, .bf16⟩

abbrev hbmTy0_1 (i : Nat) : BufTy := match i % 128 with
  | 0 => ⟨S2x64x2048x128, .f32⟩
  | 1 => ⟨S2x64x2048x128, .f32⟩
  | 2 => ⟨S1x1x2048x1, .i1⟩
  | 3 => ⟨S_, .f32⟩
  | 4 => ⟨S_, .f32⟩
  | 5 => ⟨S2x64x2048x128, .i1⟩
  | 6 => ⟨S2x64x2048x128, .f32⟩
  | 7 => ⟨S2x64x2048x128, .f32⟩
  | 8 => ⟨S2x64x64x2048, .f32⟩
  | 9 => ⟨S2x2048x64x64, .f32⟩
  | 10 => ⟨S2x2048x4096, .f32⟩
  | 11 => ⟨S2x2048x512, .f32⟩
  | _ => ⟨S2x2048x512, .bf16⟩

abbrev hbmTy (i : Nat) : BufTy := match i / 128 with
  | 0 => hbmTy0_0 i
  | 1 => hbmTy0_1 i
  | _ => ⟨S2x2048x512, .bf16⟩

abbrev bufTy : (tb : Table) → Fin (tcTables nBuf tb) → BufTy
  | .hbm, ⟨i, _⟩ => hbmTy i
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩

abbrev nD : Nat := 1
abbrev τ : Topo := Topo.v7x

variable {F : FTy → Type} [FloatOps F]
-- ==== Proof.Prog.lean ====
/- The kernel's body said by loops over the hops, the batches and the blocks. The printed body unrolls
   fifteen hops of the exchange and two batches of sixteen blocks of four heads each; here they are
   recursions on the number of the hop and of the block, over an index that stays a variable. The one
   theorem, `body_eq`, says that the printed body is this program; everything else reasons about it. -/
module

public import proofs.«01_k».proof.Proof.Gen.KernelIdeal.Skeleton
public import Idealize.ShloMosaic.Lib.Tactic

@[expose] public section

set_option maxRecDepth 65536
set_option synthInstance.maxSize 4096

noncomputable section

namespace Cert.KernelIdeal.Own

open Idealize.ShloMosaic Idealize.SL.Sem Cert.KernelIdeal.Gen

variable {F : FTy → Type} [FloatOps F]

/-- The programs of a TensorCore of this mesh. -/
abbrev P (F : FTy → Type) [FloatOps F] (α : Type) : Type 1 := Prog (TpuEff nD τ sig (Elt F) Λ₀ .tc) α

/-! ## The values -/

/-- The mask of device `d`: its query row `i` lies in block `2 d + i / 64` of the sequence, its key `j` in block
`j / 64`, and they see each other when the blocks are equal or agree modulo four. -/
def maskOf (d : Dev nD) : IVec S128x128 1 :=
  k0_pay9
    (k0_pay7 (iota .tc S128x128 32 [0] iota_S128x128_d0_w32)
      (Scalar.muli (Scalar.remsi (Scalar.divsi (Dev.word d) 1#32) 16#32) 2#32) 64#32 k0_pay6 0#32)
    (k0_pay8 (iota .tc S128x128 32 [1] iota_S128x128_d1_w32))

/-- The rows of the mask that see a key at all, as the body computes them. -/
def keepOf (F : FTy → Type) [FloatOps F] (d : Dev nD) : IVec S128x1 1 :=
  k0_pay10 (F := F)
    (k0_pay7 (iota .tc S128x128 32 [0] iota_S128x128_d0_w32)
      (Scalar.muli (Scalar.remsi (Scalar.divsi (Dev.word d) 1#32) 16#32) 2#32) 64#32 k0_pay6 0#32)
    (k0_pay8 (iota .tc S128x128 32 [1] iota_S128x128_d1_w32))

theorem slices_head (a : Fin 4) : S128x256.Slices ![0, 64 * a.val] S128x64 := by
  revert a; decide

theorem slices_batch (b : Fin 2) : S2x128x512.Slices ![b.val, 0, 0] S1x128x512 := by
  revert b; decide

theorem inb_batch (b : Fin 2) : ∀ a, (![b.val, 0, 0] : Fin 3 → Nat) a + S1x128x512.size a ≤ S2x128x512.size a := by
  revert b; decide

theorem inb_q (j : Fin 16) : ∀ a, (![j.val, 0, 0] : Fin 3 → Nat) a + S1x512x256.size a ≤ S16x512x256.size a := by
  revert j; decide

theorem inb_o (j : Fin 16) : ∀ a, (![j.val, 0, 0] : Fin 3 → Nat) a + S1x256x512.size a ≤ S16x256x512.size a := by
  revert j; decide

theorem inb_kv (b : Fin 2) (j : Fin 16) (a : Fin 4) :
    ∀ i, (![b.val, 0, 4 * j.val + a.val, 0] : Fin 4 → Nat) i + S1x128x1x64.size i ≤ S2x128x64x64.size i := by
  revert b j a; decide

theorem inb_sem (h : Fin 15) : ∀ a, (![h.val] : Fin 1 → Nat) a + S1.size a ≤ S15.size a := by
  revert h; decide

/-- The scores of one head, masked: the head's columns of the block's queries against its keys, scaled. -/
def scoreOf (mask : IVec S128x128 1) (q : FVec F S128x256 .bf16) (a : Fin 4) (k : Vec F S1x128x1x64 .bf16) :
    FVec F S128x128 .f32 :=
  select mask
    (mulf (matmul dot_S128x64_S128x64_S128x128_1_1_0_0_n_n none
        (extractStridedSlice S128x64 ![0, 64 * a.val] q (slices_head a))
        (shapeCast S128x64 k shapeCasts_S1x128x1x64_S128x64) (constant S128x128 .f32 0x00000000#32))
      (broadcast S128x128 (Scalar.ofBits .f32 0x3E000000#32)))
    (broadcast S128x128 (Scalar.ofBits .f32 0xCE6E6B28#32))

/-- The exponentials of a score's rows, their largest entry taken off first. -/
def expOf (s : FVec F S128x128 .f32) : FVec F S128x128 .f32 :=
  exp (subf s (broadcastTo S128x128
    (shapeCast S128x1
      (multiReduction .maximumf [1] S128 s 0xFF800000#32 reduces_S128x128_S128 (.inl rfl) rfl)
      shapeCasts_S128_S128x1) broadcasts_S128x1_S128x128))

/-- The weights: the exponentials over the sum of their row, and zero in a row that sees no key. -/
def weightOf (keep : IVec S128x1 1) (e : FVec F S128x128 .f32) : FVec F S128x128 .bf16 :=
  truncf .bf16
    (select (broadcastTo S128x128 (shapeCast S128x1 keep shapeCasts_S128x1_S128x1) broadcasts_S128x1_S128x128)
      (divf e (broadcastTo S128x128
        (select keep
          (shapeCast S128x1
            (multiReduction .add [1] S128 e 0x00000000#32 reduces_S128x128_S128 (.inl rfl) rfl)
            shapeCasts_S128_S128x1)
          (broadcast S128x1 (Scalar.ofBits .f32 0x3F800000#32))) broadcasts_S128x1_S128x128))
      (broadcast S128x128 (Scalar.ofBits .f32 0x00000000#32)))
    bitsLt_bf16_f32

/-- One head of one block: the weights of its queries and keys times its values. -/
def headOf (mask : IVec S128x128 1) (keep : IVec S128x1 1) (q : FVec F S128x256 .bf16) (a : Fin 4)
    (k v : Vec F S1x128x1x64 .bf16) : FVec F S128x64 .bf16 :=
  truncf .bf16
    (matmul dot_S128x128_S128x64_S128x64_1_0_0_1_n_n none (weightOf keep (expOf (scoreOf mask q a k)))
      (shapeCast S128x64 v shapeCasts_S1x128x1x64_S128x64) (constant S128x64 .f32 0x00000000#32))
    bitsLt_bf16_f32

/-- The queries of one batch against one block of the query weight. -/
def qOf (x : Vec F S2x128x512 .bf16) (b : Fin 2) (wq : Vec F S1x512x256 .bf16) : FVec F S128x256 .bf16 :=
  truncf .bf16
    (matmul dot_S128x512_S512x256_S128x256_1_0_0_1_n_n none
      (shapeCast S128x512
        (extractStridedSlice S1x128x512 ![b.val, 0, 0]
          (shapeCast S2x128x512 x shapeCasts_S2x128x512_S2x128x512) (slices_batch b))
        shapeCasts_S1x128x512_S128x512)
      (shapeCast S512x256 wq shapeCasts_S1x512x256_S512x256) (constant S128x256 .f32 0x00000000#32))
    bitsLt_bf16_f32

/-- One block added to the running sum of a batch: its four heads side by side times its rows of the output
weight. -/
def accOf (acc : FVec F S128x512 .f32) (h0 h1 h2 h3 : FVec F S128x64 .bf16) (wo : Vec F S1x256x512 .bf16) :
    FVec F S128x512 .f32 :=
  addf acc
    (matmul dot_S128x256_S256x512_S128x512_1_0_0_1_n_n none
      (concatenate S128x256 1 [⟨S128x64, h0⟩, ⟨S128x64, h1⟩, ⟨S128x64, h2⟩, ⟨S128x64, h3⟩]
        concatenates_S128x64_S128x64_S128x64_S128x64_S128x256_d1)
      (shapeCast S256x512 wo shapeCasts_S1x256x512_S256x512) (constant S128x512 .f32 0x00000000#32))

/-! ## The program -/

section

variable (arg0 : Memref sig .tc .vmem S2x128x512 .bf16) (harg0 : arg0.IsWhole)
  (arg1 : Memref sig .tc .vmem S512x256 .bf16) (harg1 : arg1.IsWhole)
  (arg2 : Memref sig .tc .vmem S2x128x64x64 .bf16) (harg2 : arg2.IsWhole)
  (arg3 : Memref sig .tc .vmem S2x128x64x64 .bf16) (harg3 : arg3.IsWhole)
  (arg4 : Memref sig .tc .vmem S256x512 .bf16) (harg4 : arg4.IsWhole)
  (arg5 : Memref sig .tc .vmem S2x128x512 .f32) (harg5 : arg5.IsWhole)
  (arg6 : Memref sig .tc .vmem S16x512x256 .bf16) (harg6 : arg6.IsWhole)
  (arg7 : Memref sig .tc .vmem S16x256x512 .bf16) (harg7 : arg7.IsWhole)
  (arg8 : Memref sig .tc .vmem S2x128x64x64 .bf16) (harg8 : arg8.IsWhole)
  (arg9 : Memref sig .tc .vmem S2x128x64x64 .bf16) (harg9 : arg9.IsWhole)
  (arg10 arg11 arg12 arg13 : DmaSems sig S15)

/-- The handshake: a signal to each neighbour, then a wait for both of theirs. -/
def handshake (d0 : Dev nD) : P F PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32

/-- The device's own blocks of the two weights into its own slots. -/
def ownSlots (d0 : Dev nD) : P F PUnit := do
  let v13 ← Prog.lift (.load arg1 (Rect.unit (s := S512x256) ![0, 0] S512x256.size inb_S512x256_S512x256_0_0).toLoadRect (View.loadsAt_vmem h_S512x256))
  let _ ← Prog.lift (.load arg6 (Rect.unit (s := S16x512x256) (k0_off1 d0) S1x512x256.size (k0_off1_inb d0)).toLoadRect (View.loadsAt_vmem h_S1x512x256))
  Prog.lift (.store arg6 (Rect.unit (s := S16x512x256) (k0_off1 d0) S1x512x256.size (k0_off1_inb d0)) (k0_pay2 v13) Finset.univ (View.stores_vmem h_S1x512x256 (harg6.storeExact_slice rfl _ (k0_off1_packedbf16 d0)) (fun _ => rfl)) (.inl rfl))
  let v19 ← Prog.lift (.load arg4 (Rect.unit (s := S256x512) ![0, 0] S256x512.size inb_S256x512_S256x512_0_0).toLoadRect (View.loadsAt_vmem h_S256x512))
  let _ ← Prog.lift (.load arg7 (Rect.unit (s := S16x256x512) (k0_off2 d0) S1x256x512.size (k0_off2_inb d0)).toLoadRect (View.loadsAt_vmem h_S1x256x512))
  Prog.lift (.store arg7 (Rect.unit (s := S16x256x512) (k0_off2 d0) S1x256x512.size (k0_off2_inb d0)) (k0_pay3 v19) Finset.univ (View.stores_vmem h_S1x256x512 (harg7.storeExact_slice rfl _ (k0_off2_packedbf16 d0)) (fun _ => rfl)) (.inl rfl))

/-- The slot of the gathered query weight that hop `h` moves. -/
def slotQ (d0 : Dev nD) (h : Fin 15) : Memref sig .tc .vmem S512x256 .bf16 :=
  (arg6.slice (Rect.unit (s := S16x512x256) (k0_off3 d0 (BitVec.ofNat 32 h.val)) S1x512x256.size (k0_off3_inb d0 h)) (fun _ => rfl)).squeeze S512x256 squeezes_S1x512x256_S512x256

/-- The slot of the gathered output weight that hop `h` moves. -/
def slotO (d0 : Dev nD) (h : Fin 15) : Memref sig .tc .vmem S256x512 .bf16 :=
  (arg7.slice (Rect.unit (s := S16x256x512) (k0_off4 d0 (BitVec.ofNat 32 h.val)) S1x256x512.size (k0_off4_inb d0 h)) (fun _ => rfl)).squeeze S256x512 squeezes_S1x256x512_S256x512

/-- Semaphore `h` of an array of fifteen. -/
def semAt (a : DmaSems sig S15) (h : Fin 15) : DmaSems sig S_ :=
  (a.slice (Rect.unit (s := S15) ![h.val] S1.size (inb_sem h))).squeeze S_ squeezes_S1_S_

include harg6 in
/-- The evidence that hop `h`'s slot of the query weight is whole words. -/
theorem wordsQ (d0 : Dev nD) (h : Fin 15) : (slotQ arg6 d0 h).view.WordExact :=
  (harg6.wordExact_slice rfl _ (k0_off3_wordsbf16 d0 h)).reshape _ _

include harg7 in
/-- The evidence that hop `h`'s slot of the output weight is whole words. -/
theorem wordsO (d0 : Dev nD) (h : Fin 15) : (slotO arg7 d0 h).view.WordExact :=
  (harg7.wordExact_slice rfl _ (k0_off4_wordsbf16 d0 h)).reshape _ _

/-- Hop `h`: a block of the query weight to the right neighbour and one of the output weight to the left, then
the waits for both copies' departures and arrivals. -/
def hop (d0 : Dev nD) (h : Fin 15) : P F PUnit := do
  Prog.lift (.enqueueDma (slotQ arg6 d0 h) (.remote (Dev.tc (⟨k0_dev3 d0, k0_dev3_lt d0⟩ : Dev nD)) (slotQ arg6 d0 h) (.dma (semAt arg10 h).sem)) (.dma (semAt arg11 h).sem) (wordsQ arg6 harg6 d0 h) (wordsQ arg6 harg6 d0 h) ⟨⟨rfl, Or.inl rfl⟩, trivial⟩)
  Prog.lift (.enqueueDma (slotO arg7 d0 h) (.remote (Dev.tc (⟨k0_dev4 d0, k0_dev4_lt d0⟩ : Dev nD)) (slotO arg7 d0 h) (.dma (semAt arg12 h).sem)) (.dma (semAt arg13 h).sem) (wordsO arg7 harg7 d0 h) (wordsO arg7 harg7 d0 h) ⟨⟨rfl, Or.inl rfl⟩, trivial⟩)
  Prog.lift (.waitDma2 (semAt arg10 h).sem (slotQ arg6 d0 h) (slotQ arg6 d0 h) (wordsQ arg6 harg6 d0 h) (wordsQ arg6 harg6 d0 h))
  Prog.lift (.waitDma2 (semAt arg11 h).sem (slotQ arg6 d0 h) (slotQ arg6 d0 h) (wordsQ arg6 harg6 d0 h) (wordsQ arg6 harg6 d0 h))
  Prog.lift (.waitDma2 (semAt arg12 h).sem (slotO arg7 d0 h) (slotO arg7 d0 h) (wordsO arg7 harg7 d0 h) (wordsO arg7 harg7 d0 h))
  Prog.lift (.waitDma2 (semAt arg13 h).sem (slotO arg7 d0 h) (slotO arg7 d0 h) (wordsO arg7 harg7 d0 h) (wordsO arg7 harg7 d0 h))

/-- The first `n` hops. -/
def hops (d0 : Dev nD) (n : Nat) : P F PUnit :=
  Nat.rec (pure ⟨⟩) (fun n ih => ih >>= fun _ => hop arg6 harg6 arg7 harg7 arg10 arg11 arg12 arg13 d0 (Fin.ofNat 15 n)) n

/-- The keys and the values into the scratch buffers that the heads read. -/
def copyKV : P F PUnit := do
  let v820 ← Prog.lift (.load arg2 (Rect.unit (s := S2x128x64x64) ![0, 0, 0, 0] S2x128x64x64.size inb_S2x128x64x64_S2x128x64x64_0_0_0_0).toLoadRect (View.loadsAt_vmem h_S2x128x64x64))
  let _ ← Prog.lift (.load arg8 (Rect.unit (s := S2x128x64x64) ![0, 0, 0, 0] S2x128x64x64.size inb_S2x128x64x64_S2x128x64x64_0_0_0_0).toLoadRect (View.loadsAt_vmem h_S2x128x64x64))
  Prog.lift (.store arg8 (Rect.unit (s := S2x128x64x64) ![0, 0, 0, 0] S2x128x64x64.size inb_S2x128x64x64_S2x128x64x64_0_0_0_0) (k0_pay4 v820) Finset.univ (View.stores_vmem h_S2x128x64x64 (harg8.storeExact_slice rfl _ packedbf16_S2x128x64x64_S2x128x64x64_0_0_0_0) (fun _ => rfl)) (.inl rfl))
  let v825 ← Prog.lift (.load arg3 (Rect.unit (s := S2x128x64x64) ![0, 0, 0, 0] S2x128x64x64.size inb_S2x128x64x64_S2x128x64x64_0_0_0_0).toLoadRect (View.loadsAt_vmem h_S2x128x64x64))
  let _ ← Prog.lift (.load arg9 (Rect.unit (s := S2x128x64x64) ![0, 0, 0, 0] S2x128x64x64.size inb_S2x128x64x64_S2x128x64x64_0_0_0_0).toLoadRect (View.loadsAt_vmem h_S2x128x64x64))
  Prog.lift (.store arg9 (Rect.unit (s := S2x128x64x64) ![0, 0, 0, 0] S2x128x64x64.size inb_S2x128x64x64_S2x128x64x64_0_0_0_0) (k0_pay5 v825) Finset.univ (View.stores_vmem h_S2x128x64x64 (harg9.storeExact_slice rfl _ packedbf16_S2x128x64x64_S2x128x64x64_0_0_0_0) (fun _ => rfl)) (.inl rfl))

/-- One head of block `j` of batch `b`. -/
def head (mask : IVec S128x128 1) (keep : IVec S128x1 1) (b : Fin 2) (j : Fin 16) (q : FVec F S128x256 .bf16)
    (a : Fin 4) : P F (FVec F S128x64 .bf16) := do
  let k ← Prog.lift (.load arg8 (Rect.unit (s := S2x128x64x64) ![b.val, 0, 4 * j.val + a.val, 0] S1x128x1x64.size (inb_kv b j a)).toLoadRect (View.loadsAt_vmem h_S1x128x1x64))
  let v ← Prog.lift (.load arg9 (Rect.unit (s := S2x128x64x64) ![b.val, 0, 4 * j.val + a.val, 0] S1x128x1x64.size (inb_kv b j a)).toLoadRect (View.loadsAt_vmem h_S1x128x1x64))
  pure (headOf mask keep q a k v)

/-- Block `j` of batch `b`, added to the running sum `acc`. -/
def block (mask : IVec S128x128 1) (keep : IVec S128x1 1) (x : Vec F S2x128x512 .bf16) (b : Fin 2) (j : Fin 16)
    (acc : FVec F S128x512 .f32) : P F (FVec F S128x512 .f32) := do
  let wq ← Prog.lift (.load arg6 (Rect.unit (s := S16x512x256) ![j.val, 0, 0] S1x512x256.size (inb_q j)).toLoadRect (View.loadsAt_vmem h_S1x512x256))
  let h0 ← head arg8 arg9 mask keep b j (qOf x b wq) 0
  let h1 ← head arg8 arg9 mask keep b j (qOf x b wq) 1
  let h2 ← head arg8 arg9 mask keep b j (qOf x b wq) 2
  let h3 ← head arg8 arg9 mask keep b j (qOf x b wq) 3
  let wo ← Prog.lift (.load arg7 (Rect.unit (s := S16x256x512) ![j.val, 0, 0] S1x256x512.size (inb_o j)).toLoadRect (View.loadsAt_vmem h_S1x256x512))
  pure (accOf acc h0 h1 h2 h3 wo)

/-- The first `n` blocks of batch `b`, from zero. -/
def blocks (mask : IVec S128x128 1) (keep : IVec S128x1 1) (x : Vec F S2x128x512 .bf16) (b : Fin 2) (n : Nat) :
    P F (FVec F S128x512 .f32) :=
  Nat.rec (pure (k0_pay13 (F := F))) (fun n ih => ih >>= block arg6 arg7 arg8 arg9 mask keep x b (Fin.ofNat 16 n)) n

/-- Batch `b`: its sixteen blocks, and their sum stored into its half of the result. -/
def batch (mask : IVec S128x128 1) (keep : IVec S128x1 1) (x : Vec F S2x128x512 .bf16) (b : Fin 2) : P F PUnit := do
  let acc ← blocks arg6 arg7 arg8 arg9 mask keep x b 16
  let _ ← Prog.lift (.load arg5 (Rect.unit (s := S2x128x512) ![b.val, 0, 0] S1x128x512.size (inb_batch b)).toLoadRect (View.loadsAt_vmem h_S1x128x512))
  Prog.lift (.store arg5 (Rect.unit (s := S2x128x512) ![b.val, 0, 0] S1x128x512.size (inb_batch b)) (shapeCast S1x128x512 acc shapeCasts_S128x512_S1x128x512) Finset.univ (View.stores_vmem_bits_univ h_S1x128x512 rfl) (.inl rfl))

/-- Both batches, after the rows of `x` are read. -/
def compute (d0 : Dev nD) : P F PUnit := do
  let x ← Prog.lift (.load arg0 (Rect.unit (s := S2x128x512) ![0, 0, 0] S2x128x512.size inb_S2x128x512_S2x128x512_0_0_0).toLoadRect (View.loadsAt_vmem h_S2x128x512))
  batch arg5 arg6 arg7 arg8 arg9 (maskOf d0) (keepOf F d0) x 0
  batch arg5 arg6 arg7 arg8 arg9 (maskOf d0) (keepOf F d0) x 1

/-- The whole body. -/
def body : P F PUnit := do
  let d0 ← Prog.lift .deviceId
  handshake d0
  ownSlots arg1 arg4 arg6 harg6 arg7 harg7 d0
  hops arg6 harg6 arg7 harg7 arg10 arg11 arg12 arg13 d0 15
  copyKV arg2 arg3 arg8 harg8 arg9 harg9
  compute arg0 arg5 arg6 arg7 arg8 arg9 d0

/-- The printed body is this program. -/
theorem body_eq :
    cc0_body (F := F) arg0 harg0 arg1 harg1 arg2 harg2 arg3 harg3 arg4 harg4 arg5 harg5 arg6 harg6 arg7 harg7
      arg8 harg8 arg9 harg9 arg10 arg11 arg12 arg13 =
    body arg0 arg1 arg2 arg3 arg4 arg5 arg6 harg6 arg7 harg7 arg8 harg8 arg9 harg9 arg10 arg11 arg12 arg13 := by
  sl_kernel_rfl

end

end Cert.KernelIdeal.Own

end
-- ==== Proof.Proto.lean ====
/- The exchange's protocol. Written down before anything is executed:

   - A device's BARRIER cell has one round of two units. One unit comes from its right neighbour and hands over that
     neighbour's fifteen slots of the gathered query weight that this device will fill; the other comes from its left
     neighbour and hands over that neighbour's fifteen slots of the gathered output weight.
   - At hop `h` device `c` copies slot `c - h` of the query weight to the right and slot `c + h` of the output weight to
     the left. The departure cell of a copy gives the sender its slot back, unchanged; the arrival cell gives the
     receiver its own slot, filled. What a slot `j` holds when it is filled is the same on every device: device `j`'s
     block of the weight.
   - Each departure and arrival cell is used for one hop only, so every cell has one round. An arrival of hop `h` is
     waited for when only arrivals of later hops are still owed: the levels grow with the hop. -/
module

public import proofs.«01_k».proof.Proof.Prog
public import proofs.«01_k».proof.Proof.Gen.KernelIdeal.Frame
public import Idealize.ShloMosaic.Lib.Pipeline.Launch
public import Idealize.ShloMosaic.Lib.Pipeline.Kit

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two kinds of cells' ghost state: the pipeline's and the exchange's -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The ring -/

/-- The right neighbour. -/
def nxt (c : Dev nD) : Dev nD := ⟨(c.val + 1) % 16, Nat.mod_lt _ (by decide)⟩
/-- The left neighbour. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)

def ring : Dev nD ≃ Dev nD := ⟨nxt, prv, prv_nxt, nxt_prv⟩

/-- The slot of the query weight that device `c` moves at hop `n` (and, at `n = 15`, the last it receives). -/
def qix (c : Dev nD) (n : ℕ) : Fin 16 := ⟨(c.val + 16 - n) % 16, Nat.mod_lt _ (by decide)⟩
/-- The slot of the output weight that device `c` moves at hop `n`. -/
def oix (c : Dev nD) (n : ℕ) : Fin 16 := ⟨(c.val + n) % 16, Nat.mod_lt _ (by decide)⟩

theorem qix_prv (c : Dev nD) (h : Fin 15) : qix (prv c) h.val = qix c (h.val + 1) := by revert c h; decide
theorem oix_nxt (c : Dev nD) (h : Fin 15) : oix (nxt c) h.val = oix c (h.val + 1) := by revert c h; decide
theorem qix_zero (c : Dev nD) : qix c 0 = c := by revert c; decide
theorem oix_zero (c : Dev nD) : oix c 0 = c := by revert c; decide

/-- The slots of device `c` other than its own, as its left neighbour fills them. -/
theorem q_others (c : Dev nD) :
    ∃ hi : Function.Injective fun h : Fin 15 => qix (prv c) h.val,
      (Finset.univ : Finset (Fin 16)).erase c = Finset.univ.map ⟨fun h : Fin 15 => qix (prv c) h.val, hi⟩ := by
  refine ⟨by revert c; decide, ?_⟩
  ext j; simp only [Finset.mem_erase, Finset.mem_univ, and_true, Finset.mem_map, true_and, Function.Embedding.coeFn_mk]
  revert c j; decide

/-- The slots of device `c` other than its own, as its right neighbour fills them. -/
theorem o_others (c : Dev nD) :
    ∃ hi : Function.Injective fun h : Fin 15 => oix (nxt c) h.val,
      (Finset.univ : Finset (Fin 16)).erase c = Finset.univ.map ⟨fun h : Fin 15 => oix (nxt c) h.val, hi⟩ := by
  refine ⟨by revert c; decide, ?_⟩
  ext j; simp only [Finset.mem_erase, Finset.mem_univ, and_true, Finset.mem_map, true_and, Function.Embedding.coeFn_mk]
  revert c j; decide

/-- The slots a device has sent on after all hops: every one but the last received. -/
theorem q_sent (c : Dev nD) :
    ∃ hi : Function.Injective fun h : Fin 15 => qix c h.val,
      (Finset.univ : Finset (Fin 16)).erase (qix c 15) = Finset.univ.map ⟨fun h : Fin 15 => qix c h.val, hi⟩ := by
  refine ⟨by revert c; decide, ?_⟩
  ext j; simp only [Finset.mem_erase, Finset.mem_univ, and_true, Finset.mem_map, true_and, Function.Embedding.coeFn_mk]
  revert c j; decide

theorem o_sent (c : Dev nD) :
    ∃ hi : Function.Injective fun h : Fin 15 => oix c h.val,
      (Finset.univ : Finset (Fin 16)).erase (oix c 15) = Finset.univ.map ⟨fun h : Fin 15 => oix c h.val, hi⟩ := by
  refine ⟨by revert c; decide, ?_⟩
  ext j; simp only [Finset.mem_erase, Finset.mem_univ, and_true, Finset.mem_map, true_and, Function.Embedding.coeFn_mk]
  revert c j; decide

/-! ## The buffers and their slots -/

abbrev xM : Memref sig .tc .vmem S2x128x512 .bf16 := Memref.whole cc0_stg0_0
abbrev wqM : Memref sig .tc .vmem S512x256 .bf16 := Memref.whole cc0_stg1_0
abbrev kM : Memref sig .tc .vmem S2x128x64x64 .bf16 := Memref.whole cc0_stg2_0
abbrev vM : Memref sig .tc .vmem S2x128x64x64 .bf16 := Memref.whole cc0_stg3_0
abbrev woM : Memref sig .tc .vmem S256x512 .bf16 := Memref.whole cc0_stg4_0
abbrev outM : Memref sig .tc .vmem S2x128x512 .f32 := Memref.whole cc0_stg5_0
abbrev gqM : Memref sig .tc .vmem S16x512x256 .bf16 := Memref.whole cc0_scratch0
abbrev goM : Memref sig .tc .vmem S16x256x512 .bf16 := Memref.whole cc0_scratch1
abbrev ksM : Memref sig .tc .vmem S2x128x64x64 .bf16 := Memref.whole cc0_scratch2
abbrev vsM : Memref sig .tc .vmem S2x128x64x64 .bf16 := Memref.whole cc0_scratch3

/-- A block of the gathered query weight at any offsets. -/
def qAt (off : Fin 3 → ℕ) (inb : ∀ a, off a + S1x512x256.size a ≤ S16x512x256.size a) : Memref sig .tc .vmem S512x256 .bf16 :=
  (gqM.slice (Rect.unit (s := S16x512x256) off S1x512x256.size inb) (fun _ => rfl)).squeeze S512x256 squeezes_S1x512x256_S512x256

/-- A block of the gathered output weight at any offsets. -/
def oAt (off : Fin 3 → ℕ) (inb : ∀ a, off a + S1x256x512.size a ≤ S16x256x512.size a) : Memref sig .tc .vmem S256x512 .bf16 :=
  (goM.slice (Rect.unit (s := S16x256x512) off S1x256x512.size inb) (fun _ => rfl)).squeeze S256x512 squeezes_S1x256x512_S256x512

/-- Slot `j` of the gathered query weight. -/
abbrev qV (j : Fin 16) : Memref sig .tc .vmem S512x256 .bf16 := qAt ![j.val, 0, 0] (inb_q j)
/-- Slot `j` of the gathered output weight. -/
abbrev oV (j : Fin 16) : Memref sig .tc .vmem S256x512 .bf16 := oAt ![j.val, 0, 0] (inb_o j)

theorem qAt_congr {off off' : Fin 3 → ℕ} (h : off = off') (i : ∀ a, off a + S1x512x256.size a ≤ S16x512x256.size a)
    (i' : ∀ a, off' a + S1x512x256.size a ≤ S16x512x256.size a) : qAt off i = qAt off' i' := by subst h; rfl
theorem oAt_congr {off off' : Fin 3 → ℕ} (h : off = off') (i : ∀ a, off a + S1x256x512.size a ≤ S16x256x512.size a)
    (i' : ∀ a, off' a + S1x256x512.size a ≤ S16x256x512.size a) : oAt off i = oAt off' i' := by subst h; rfl

/-- The slot that hop `h` moves is slot `c - h`; -/
theorem slotQ_eq (c : Dev nD) (h : Fin 15) : slotQ gqM c h = qV (qix c h.val) :=
  qAt_congr (k0_off3_eq c h) (k0_off3_inb c h) (inb_q (qix c h.val))
/-- of the output weight, slot `c + h`. -/
theorem slotO_eq (c : Dev nD) (h : Fin 15) : slotO goM c h = oV (oix c h.val) :=
  oAt_congr (k0_off4_eq c h) (k0_off4_inb c h) (inb_o (oix c h.val))

theorem mem_qV (j : Fin 16) (i : S16x512x256.Idx) : i ∈ (qV j).view.set ↔ (i 0).val = j.val := by
  have h : (qV j).view.set = (Rect.unit (s := S16x512x256) ![j.val, 0, 0] S1x512x256.size (inb_q j)).set :=
    (View.set_reshape _ _).trans (View.set_slice_whole cc0_scratch0 _)
  refine (Finset.ext_iff.mp h i).trans (Rect.mem_set_unit.trans ?_)
  have h1 := (i 1).isLt; have h2 := (i 2).isLt
  constructor
  · intro h
    have := h 0
    have e1 : (![j.val, 0, 0] : Fin 3 → ℕ) 0 = j.val := rfl
    have e2 : S1x512x256.size 0 = 1 := rfl
    omega
  · intro h a
    fin_cases a
    · exact ⟨by show j.val ≤ (i 0).val; omega, by show (i 0).val < j.val + 1; omega⟩
    · exact ⟨Nat.zero_le _, by rw [show (![j.val, 0, 0] : Fin 3 → ℕ) ⟨1, by decide⟩ = 0 from rfl, Nat.zero_add]; exact h1⟩
    · exact ⟨Nat.zero_le _, by rw [show (![j.val, 0, 0] : Fin 3 → ℕ) ⟨2, by decide⟩ = 0 from rfl, Nat.zero_add]; exact h2⟩

theorem mem_oV (j : Fin 16) (i : S16x256x512.Idx) : i ∈ (oV j).view.set ↔ (i 0).val = j.val := by
  have h : (oV j).view.set = (Rect.unit (s := S16x256x512) ![j.val, 0, 0] S1x256x512.size (inb_o j)).set :=
    (View.set_reshape _ _).trans (View.set_slice_whole cc0_scratch1 _)
  refine (Finset.ext_iff.mp h i).trans (Rect.mem_set_unit.trans ?_)
  have h1 := (i 1).isLt; have h2 := (i 2).isLt
  constructor
  · intro h
    have := h 0
    have e1 : (![j.val, 0, 0] : Fin 3 → ℕ) 0 = j.val := rfl
    have e2 : S1x256x512.size 0 = 1 := rfl
    omega
  · intro h a
    fin_cases a
    · exact ⟨by show j.val ≤ (i 0).val; omega, by show (i 0).val < j.val + 1; omega⟩
    · exact ⟨Nat.zero_le _, by rw [show (![j.val, 0, 0] : Fin 3 → ℕ) ⟨1, by decide⟩ = 0 from rfl, Nat.zero_add]; exact h1⟩
    · exact ⟨Nat.zero_le _, by rw [show (![j.val, 0, 0] : Fin 3 → ℕ) ⟨2, by decide⟩ = 0 from rfl, Nat.zero_add]; exact h2⟩

abbrev QBuf (F : FTy → Type) [FloatOps F] : Type := (cc0_scratch0 : Ref sig .tc).ty.Contents (Elt F)
abbrev OBuf (F : FTy → Type) [FloatOps F] : Type := (cc0_scratch1 : Ref sig .tc).ty.Contents (Elt F)

/-- Slot `j` of device `c`'s gathered query weight, at the contents `f` of the whole buffer. -/
def qSlot (c : Dev nD) (j : Fin 16) (f : Buf (Elt F) ((qV j).view.loc (c : Thread nD τ))) : sProp 𝕄 :=
  (qV j).view.loc (c : Thread nD τ) ↦[(qV j).view.set]{fullShare} f
/-- Slot `j` of device `c`'s gathered output weight. -/
def oSlot (c : Dev nD) (j : Fin 16) (f : Buf (Elt F) ((oV j).view.loc (c : Thread nD τ))) : sProp 𝕄 :=
  (oV j).view.loc (c : Thread nD τ) ↦[(oV j).view.set]{fullShare} f

instance qSlot_storable (c : Dev nD) (j) (f) : BI.Storable (upEmb : UEmb _ 𝕄) (qSlot (F := F) c j f) := by
  unfold qSlot; infer_instance
instance oSlot_storable (c : Dev nD) (j) (f) : BI.Storable (upEmb : UEmb _ 𝕄) (oSlot (F := F) c j f) := by
  unfold oSlot; infer_instance

/-- A whole buffer is its sixteen slots. -/
theorem q_slots (c : Dev nD) (f : QBuf F) :
    (((c : Thread nD τ).loc cc0_scratch0) ↦{fullShare} f : sProp 𝕄) = bigSep Finset.univ fun j : Fin 16 => qSlot c j f := by
  have hu : (Finset.univ : Finset (Idx ((c : Thread nD τ).loc cc0_scratch0)))
      = (Finset.univ : Finset (Fin 16)).biUnion fun j => (qV j).view.set := by
    exact (Finset.eq_univ_iff_forall.mpr fun i => Finset.mem_biUnion.mpr
      ⟨⟨(i 0).val, (i 0).isLt⟩, Finset.mem_univ _, (mem_qV _ i).mpr rfl⟩).symm
  rw [hu]
  exact pointsTo_biUnion _ _ (fun a _ b _ hab => Finset.disjoint_left.mpr fun i hi hj =>
    hab (Fin.ext (((mem_qV a i).mp hi).symm.trans ((mem_qV b i).mp hj))))

theorem o_slots (c : Dev nD) (f : OBuf F) :
    (((c : Thread nD τ).loc cc0_scratch1) ↦{fullShare} f : sProp 𝕄) = bigSep Finset.univ fun j : Fin 16 => oSlot c j f := by
  have hu : (Finset.univ : Finset (Idx ((c : Thread nD τ).loc cc0_scratch1)))
      = (Finset.univ : Finset (Fin 16)).biUnion fun j => (oV j).view.set := by
    exact (Finset.eq_univ_iff_forall.mpr fun i => Finset.mem_biUnion.mpr
      ⟨⟨(i 0).val, (i 0).isLt⟩, Finset.mem_univ _, (mem_oV _ i).mpr rfl⟩).symm
  rw [hu]
  exact pointsTo_biUnion _ _ (fun a _ b _ hab => Finset.disjoint_left.mpr fun i hi hj =>
    hab (Fin.ext (((mem_oV a i).mp hi).symm.trans ((mem_oV b i).mp hj))))

/-! ## The cells -/

/-- A device's cells: the barrier's, and for each of the four semaphore arrays (query weight departures and arrivals,
output weight departures and arrivals) one per hop. -/
abbrev CK : Type := Option (Fin 4 × Fin 15)

abbrev barS : Sem sig := (SemArray.scalar (sig.barrier 0 rfl) : Sems sig S_).sem

/-- The semaphore of array `a` at hop `h`. -/
def dsem (a : Fin 4) (h : Fin 15) : DmaSem sig :=
  (semAt (match a with | 0 => cc0_scratch4 | 1 => cc0_scratch5 | 2 => cc0_scratch6 | 3 => cc0_scratch7) h).sem

theorem dsem_val (a : Fin 4) (h : Fin 15) : (dsem a h).val = 6 + 15 * a.val + h.val := by
  revert a h; decide

abbrev osem : Fin 4 × Fin 15 → SemLoc sig := fun k => .dma (dsem k.1 k.2)

abbrev csem : CK → SemLoc sig
  | none => .reg barS
  | some k => osem k

abbrev kcell (ck : Dev nD × CK) : GSem nD τ sig := ((ck.1 : Thread nD τ), csem ck.2)
abbrev barCell (c : Dev nD) : GSem nD τ sig := ((c : Thread nD τ), .reg barS)
abbrev xCell (c : Dev nD) (a : Fin 4) (h : Fin 15) : GSem nD τ sig := ((c : Thread nD τ), .dma (dsem a h))

/-- Which of a device's cells a semaphore is, if any. -/
def kindOf : SemLoc sig → Option CK
  | .reg s => if s = barS then some none else none
  | .dma q =>
    if h : 6 ≤ q.val ∧ q.val < 66 then
      some (some (⟨(q.val - 6) / 15, by omega⟩, ⟨(q.val - 6) % 15, Nat.mod_lt _ (by decide)⟩))
    else none

theorem kindOf_bar : kindOf (.reg barS) = some none := by
  dsimp only [kindOf]; exact if_pos rfl
theorem kindOf_dsem (a : Fin 4) (h : Fin 15) : kindOf (.dma (dsem a h)) = some (some (a, h)) := by
  have hv := dsem_val a h
  have ha := a.isLt; have hh := h.isLt
  dsimp only [kindOf]
  rw [dif_pos ⟨by omega, by omega⟩]
  congr 3
  · exact Fin.ext (by simp only; omega)
  · exact Fin.ext (by simp only; omega)
theorem kindOf_csem (k : CK) : kindOf (csem k) = some k := by
  rcases k with _ | ⟨a, h⟩
  · exact kindOf_bar
  · exact kindOf_dsem a h
theorem csem_injective : Function.Injective csem := fun a b h => by
  have := (kindOf_csem a).symm.trans ((congrArg kindOf h).trans (kindOf_csem b))
  exact Option.some.inj this

/-- The credit of one copy of a query weight block. -/
def NQ : ℕ := (qV 0).view.dmaCredit
/-- The credit of one copy of an output weight block. -/
def NO : ℕ := (oV 0).view.dmaCredit
theorem NQ_pos : 0 < NQ := View.dmaCredit_pos _ (by decide)
theorem NO_pos : 0 < NO := View.dmaCredit_pos _ (by decide)

/-- The credit of one copy, by semaphore array. -/
def NX (a : Fin 4) : ℕ := if a.val < 2 then NQ else NO
theorem NX_pos (a : Fin 4) : 0 < NX a := by unfold NX; split; exacts [NQ_pos, NO_pos]

/-! ## The schedule -/

section Sched

variable (GQ : QBuf F) (GO : OBuf F)

/-- What the right neighbour's signal hands device `c`: that neighbour's slots of the query weight but its own. -/
def barQ (c : Dev nD) : sProp 𝕄 :=
  bigSep Finset.univ fun h : Fin 15 => iprop(∃ f, qSlot (F := F) (nxt c) (qix c h.val) f)
/-- What the left neighbour's signal hands device `c`: that neighbour's slots of the output weight but its own. -/
def barO (c : Dev nD) : sProp 𝕄 :=
  bigSep Finset.univ fun h : Fin 15 => iprop(∃ f, oSlot (F := F) (prv c) (oix c h.val) f)

/-- What a departure or an arrival of hop `h` hands device `c`: the slot it sent, or the slot it received. -/
def copyPay (c : Dev nD) (a : Fin 4) (h : Fin 15) : sProp 𝕄 :=
  match a with
  | 0 => qSlot c (qix c h.val) GQ
  | 1 => qSlot c (qix c (h.val + 1)) GQ
  | 2 => oSlot c (oix c h.val) GO
  | 3 => oSlot c (oix c (h.val + 1)) GO

/-- The duties, amounts and payloads of all cells: one round each. -/
def sched : Rounds.Schedule (GSem nD τ sig) Bool 𝕄 where
  duties g r := if r = 0 ∧ g.1.2 = .tc then
      (match kindOf g.2 with | none => ∅ | some none => Finset.univ | some (some _) => {false}) else ∅
  unitless _ := False
  amount g _ _ := match kindOf g.2 with | some (some (a, _)) => NX a | _ => 1
  payload g _ d := match kindOf g.2 with
    | some none => if d then barQ g.1.1 else barO g.1.1
    | some (some (a, h)) => copyPay GQ GO g.1.1 a h
    | none => iprop(emp)
  amount_pos g _ _ _ := by
    rcases kindOf g.2 with _ | _ | ⟨a, h⟩
    · exact Nat.one_pos
    · exact Nat.one_pos
    · exact NX_pos a

instance copyPay_storable (c : Dev nD) (a h) : BI.Storable (upEmb : UEmb _ 𝕄) (copyPay GQ GO c a h) := by
  unfold copyPay; split
  exacts [qSlot_storable c _ _, qSlot_storable c _ _, oSlot_storable c _ _, oSlot_storable c _ _]
instance barQ_storable (c : Dev nD) : BI.Storable (upEmb : UEmb _ 𝕄) (barQ (F := F) c) := by unfold barQ; infer_instance
instance barO_storable (c : Dev nD) : BI.Storable (upEmb : UEmb _ 𝕄) (barO (F := F) c) := by unfold barO; infer_instance

instance sched_payload_storable (g : GSem nD τ sig) (r : ℕ) (d : Bool) :
    BI.Storable (upEmb : UEmb _ 𝕄) ((sched GQ GO).payload g r d) := by
  show BI.Storable upEmb (match kindOf g.2 with
    | some none => if d then barQ g.1.1 else barO g.1.1
    | some (some (a, h)) => copyPay GQ GO g.1.1 a h
    | none => iprop(emp))
  (repeat' split) <;> infer_instance

variable (c : Dev nD) (a : Fin 4) (h : Fin 15)

theorem duties_bar : (sched GQ GO).duties (barCell c) 0 = Finset.univ := by
  dsimp only [sched]; rw [if_pos ⟨rfl, rfl⟩, kindOf_bar]
theorem duties_x : (sched GQ GO).duties (xCell c a h) 0 = {false} := by
  dsimp only [sched]; rw [if_pos ⟨rfl, rfl⟩, kindOf_dsem]
theorem duties_later (g : GSem nD τ sig) : ∀ r, 1 ≤ r → (sched GQ GO).duties g r = ∅ :=
  fun r hr => by dsimp only [sched]; rw [if_neg fun h => by omega]

theorem amount_bar (d : Bool) : (sched GQ GO).amount (barCell c) 0 d = 1 := by
  dsimp only [sched]; rw [kindOf_bar]
theorem amount_x (d : Bool) : (sched GQ GO).amount (xCell c a h) 0 d = NX a := by
  dsimp only [sched]; rw [kindOf_dsem]

theorem expect_bar : (sched GQ GO).expect (barCell c) 0 = 2 := by
  unfold Schedule.expect Schedule.amountOf
  rw [duties_bar, Finset.sum_congr rfl fun d _ => amount_bar GQ GO c d, Finset.sum_const, Finset.card_univ, Fintype.card_bool,
    smul_eq_mul]
theorem expect_x : (sched GQ GO).expect (xCell c a h) 0 = NX a := by
  unfold Schedule.expect Schedule.amountOf; rw [duties_x, Finset.sum_singleton, amount_x]

theorem payload_bar_true : (sched GQ GO).payload (barCell c) 0 true = barQ c := by
  dsimp only [sched]; rw [kindOf_bar]; exact if_pos rfl
theorem payload_bar_false : (sched GQ GO).payload (barCell c) 0 false = barO c := by
  dsimp only [sched]; rw [kindOf_bar]; exact if_neg Bool.false_ne_true
theorem payload_x (d : Bool) : (sched GQ GO).payload (xCell c a h) 0 d = copyPay GQ GO c a h := by
  dsimp only [sched]; rw [kindOf_dsem]

theorem rest_bar : bigSep ((sched GQ GO).duties (barCell c) 0 \ ∅) (fun d => (sched GQ GO).payload (barCell c) 0 d)
    = iprop(barO c ∗ barQ c) := by
  rw [Finset.sdiff_empty, duties_bar, bigSep_univ_eq_bigSepL [false, true] (by decide) (by decide), bigSepL_cons_cons,
    bigSepL_singleton, payload_bar_false, payload_bar_true]
  rfl
theorem rest_x : bigSep ((sched GQ GO).duties (xCell c a h) 0 \ ∅) (fun d => (sched GQ GO).payload (xCell c a h) 0 d)
    = copyPay GQ GO c a h := by
  rw [Finset.sdiff_empty, duties_x, bigSep_singleton, payload_x]

end Sched

/-! ## What a device owes, and the levels -/

/-- What device `c` owes for hop `h`: the credit of its two copies on its neighbours' arrival cells. -/
def owedHop (c : Dev nD) (h : Fin 15) : CellTallies nD τ sig Unit :=
  tallyAt (xCell (prv c) 3 h) () NO + tallyAt (xCell (nxt c) 1 h) () NQ
/-- What device `c` owes from hop `n` on. -/
def owed (c : Dev nD) (n : ℕ) : CellTallies nD τ sig Unit :=
  ∑ h : Fin 15, if n ≤ h.val then owedHop c h else 0
/-- What it owes after its first signal, and at launch. -/
def O₁ (c : Dev nD) : CellTallies nD τ sig Unit := owed c 0 + tallyAt (barCell (nxt c)) () 1
def O₀ (c : Dev nD) : CellTallies nD τ sig Unit := O₁ c + tallyAt (barCell (prv c)) () 1

theorem owed_step (c : Dev nD) (h : Fin 15) :
    owed c h.val = owed c (h.val + 1) + tallyAt (xCell (prv c) 3 h) () NO + tallyAt (xCell (nxt c) 1 h) () NQ := by
  unfold owed
  rw [← Finset.add_sum_erase Finset.univ _ (Finset.mem_univ h), ← Finset.add_sum_erase (a := h) Finset.univ (fun h' : Fin 15 => if h.val + 1 ≤ h'.val then owedHop c h' else 0) (Finset.mem_univ h),
    if_pos le_rfl, if_neg (by omega), zero_add, add_comm (owedHop c h)]
  rw [Finset.sum_congr rfl fun h' hh' => show (if h.val ≤ h'.val then owedHop c h' else 0) = (if h.val + 1 ≤ h'.val then owedHop c h' else 0) from by
    have hne : h'.val ≠ h.val := fun e => (Finset.mem_erase.mp hh').1 (Fin.ext e)
    by_cases hle : h.val ≤ h'.val
    · rw [if_pos hle, if_pos (by omega)]
    · rw [if_neg hle, if_neg (by omega)]]
  rw [owedHop, add_assoc]

theorem owed_last (c : Dev nD) : owed c 15 = 0 := by
  unfold owed
  exact Finset.sum_eq_zero fun h _ => if_neg (by have := h.isLt; omega)

theorem tallies_sum_apply {ι : Type} (s : Finset ι) (f : ι → CellTallies nD τ sig Unit) (g : GSem nD τ sig) (u : Unit) :
    (∑ i ∈ s, f i) g u = ∑ i ∈ s, f i g u := by
  rw [Finset.sum_apply, Finsupp.finset_sum_apply]

/-- What is owed from hop `n` on is owed on arrival cells of hops from `n` on. -/
theorem owed_pos {c : Dev nD} {n : ℕ} {g : GSem nD τ sig} {u : Unit} (hg : 0 < owed c n g u) :
    ∃ h : Fin 15, n ≤ h.val ∧ (g = xCell (nxt c) 1 h ∨ g = xCell (prv c) 3 h) := by
  unfold owed at hg
  rw [tallies_sum_apply] at hg
  obtain ⟨h, -, hh⟩ := Finset.exists_ne_zero_of_sum_ne_zero (Nat.pos_iff_ne_zero.mp hg)
  by_cases hn : n ≤ h.val
  · refine ⟨h, hn, ?_⟩
    rw [if_pos hn, owedHop, Pi.add_apply, Finsupp.add_apply, tallyAt_apply, tallyAt_apply] at hh
    by_contra hne
    rw [not_or] at hne
    rw [if_neg (fun h' => hne.2 h'.1), if_neg (fun h' => hne.1 h'.1)] at hh
    exact hh rfl
  · rw [if_neg hn] at hh
    exact absurd rfl hh

theorem O₀_pos {c : Dev nD} {g : GSem nD τ sig} {u : Unit} (hg : 0 < O₀ c g u) :
    (∃ h : Fin 15, g = xCell (nxt c) 1 h ∨ g = xCell (prv c) 3 h) ∨ g = barCell (nxt c) ∨ g = barCell (prv c) := by
  unfold O₀ O₁ at hg
  rw [Pi.add_apply, Finsupp.add_apply, Pi.add_apply, Finsupp.add_apply, tallyAt_apply, tallyAt_apply] at hg
  by_contra hn
  rw [not_or, not_or] at hn
  rw [if_neg (fun h' => hn.2.1 h'.1), if_neg (fun h' => hn.2.2 h'.1)] at hg
  rw [add_zero, add_zero] at hg
  obtain ⟨h, -, hh⟩ := owed_pos hg
  exact hn.1 ⟨h, hh⟩

def L (g : GSem nD τ sig) : Finset Unit := if g.1.2 = .tc then {()} else ∅

/-- A semaphore's level: the staging and departure cells 0, the barrier 1, the arrivals of hop `h` at `2 + h`. -/
def level (sm : SemLoc sig) : ℕ :=
  match kindOf sm with
  | none => 0
  | some none => 1
  | some (some (a, h)) => if a.val = 1 ∨ a.val = 3 then 2 + h.val else 0

def lv (g : GSem nD τ sig) (_ : Unit) : ℕ := level g.2

theorem level_bar : level (.reg barS) = 1 := by unfold level; rw [kindOf_bar]
theorem level_x (a : Fin 4) (h : Fin 15) : level (.dma (dsem a h)) = if a.val = 1 ∨ a.val = 3 then 2 + h.val else 0 := by
  unfold level; rw [kindOf_dsem]

theorem L_of_ne (g : GSem nD τ sig) (h : g.1.2 ≠ .tc) : L g = ∅ := if_neg h
theorem L_tc (c : Dev nD) (sm : SemLoc sig) : L ((c : Thread nD τ), sm) = {()} := if_pos rfl

/-- A wait at level at most `b` while all that is owed is above `b`. -/
theorem mayWait_cut (c : Dev nD) (sm : SemLoc sig) (b : ℕ) (hsm : level sm ≤ b) (O : CellTallies nD τ sig Unit)
    (hO : ∀ g u, 0 < O g u → g.1.2 = .tc ∧ b < level g.2) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem owed_level {c : Dev nD} {n : ℕ} (g : GSem nD τ sig) (u : Unit) (hg : 0 < owed c n g u) :
    g.1.2 = .tc ∧ 1 + n < level g.2 := by
  obtain ⟨h, hn, rfl | rfl⟩ := owed_pos hg
  · refine ⟨rfl, ?_⟩; rw [level_x, if_pos (Or.inl (by decide))]; omega
  · refine ⟨rfl, ?_⟩; rw [level_x, if_pos (Or.inr (by decide))]; omega

/-- The barrier's wait: only arrivals are owed. -/
theorem mayWait_bar (c : Dev nD) : (levAts L lv : sProp 𝕄) ⊢ MayWait (c : Thread nD τ) (.reg barS) () (owed c 0) :=
  mayWait_cut c _ 1 level_bar.le _ fun g u hg => ⟨(owed_level g u hg).1, by have := (owed_level g u hg).2; omega⟩

/-- The waits of hop `h`: only arrivals of later hops are owed. -/
theorem mayWait_x (c : Dev nD) (a : Fin 4) (h : Fin 15) :
    (levAts L lv : sProp 𝕄) ⊢ MayWait (c : Thread nD τ) (.dma (dsem a h)) () (owed c (h.val + 1)) :=
  mayWait_cut c _ (2 + h.val) (by rw [level_x]; split <;> omega) _
    fun g u hg => ⟨(owed_level g u hg).1, by have := (owed_level g u hg).2; omega⟩

theorem O₀_level {c : Dev nD} (g : GSem nD τ sig) (u : Unit) (hg : 0 < O₀ c g u) : g.1.2 = .tc ∧ 0 < level g.2 := by
  rcases O₀_pos hg with ⟨h, rfl | rfl⟩ | rfl | rfl
  · refine ⟨rfl, ?_⟩; rw [level_x, if_pos (Or.inl (by decide))]; omega
  · refine ⟨rfl, ?_⟩; rw [level_x, if_pos (Or.inr (by decide))]; omega
  · refine ⟨rfl, ?_⟩; rw [level_bar]; decide
  · refine ⟨rfl, ?_⟩; rw [level_bar]; decide

/-- A staging cell's waits. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_cut c _ 0 (Nat.le_of_eq ?_) _ fun g u hg => O₀_level g u hg
    dsimp only [level, kindOf]; rw [dif_neg (by omega)]
  · rw [MayWait_zero]; iintro -; iempintro

end Cert.KernelIdeal.Own

end
-- ==== Proof.Hop.lean ====
/- One hop of the exchange, and the fifteen of them by induction on the hop. A hop's two copies take the slots device `c`
   passes on and its neighbours' empty slots, and leave the same slots filled; its four waits bring back the slots passed
   on and the slots to pass on next. -/
module

public import proofs.«01_k».proof.Proof.Proto

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The hop's program at its slots' and its neighbours' names -/

/-- A hop over any two slots, neighbours and semaphores. -/
def hopAt (sq : Memref sig .tc .vmem S512x256 .bf16) (so : Memref sig .tc .vmem S256x512 .bf16) (right left : Dev nD)
    (s0 s1 s2 s3 : DmaSem sig) (wq : sq.view.WordExact) (wo : so.view.WordExact) : P F PUnit := do
  Prog.lift (.enqueueDma sq (.remote (Dev.tc right) sq (.dma s0)) (.dma s1) wq wq ⟨⟨rfl, Or.inl rfl⟩, trivial⟩)
  Prog.lift (.enqueueDma so (.remote (Dev.tc left) so (.dma s2)) (.dma s3) wo wo ⟨⟨rfl, Or.inl rfl⟩, trivial⟩)
  Prog.lift (.waitDma2 s0 sq sq wq wq)
  Prog.lift (.waitDma2 s1 sq sq wq wq)
  Prog.lift (.waitDma2 s2 so so wo wo)
  Prog.lift (.waitDma2 s3 so so wo wo)

theorem hopAt_congr {sq sq' : Memref sig .tc .vmem S512x256 .bf16} {so so' : Memref sig .tc .vmem S256x512 .bf16}
    {right right' left left' : Dev nD} (s0 s1 s2 s3 : DmaSem sig) (wq : sq.view.WordExact) (wo : so.view.WordExact)
    (hq : sq = sq') (ho : so = so') (hr : right = right') (hl : left = left') :
    ∃ (wq' : sq'.view.WordExact) (wo' : so'.view.WordExact),
      hopAt (F := F) sq so right left s0 s1 s2 s3 wq wo = hopAt sq' so' right' left' s0 s1 s2 s3 wq' wo' := by
  subst hq ho hr hl; exact ⟨wq, wo, rfl⟩

/-- The kernel's hop `h` on device `c` is a hop over slots `c - h` and `c + h`, to the two neighbours. -/
theorem hop_eq (c : Dev nD) (h : Fin 15) :
    ∃ (wq : (qV (qix c h.val)).view.WordExact) (wo : (oV (oix c h.val)).view.WordExact),
      hop (F := F) gqM (Memref.isWhole_whole _) goM (Memref.isWhole_whole _) cc0_scratch4 cc0_scratch5 cc0_scratch6
          cc0_scratch7 c h
        = hopAt (qV (qix c h.val)) (oV (oix c h.val)) (nxt c) (prv c) (dsem 0 h) (dsem 1 h) (dsem 2 h) (dsem 3 h) wq wo :=
  hopAt_congr (dsem 0 h) (dsem 1 h) (dsem 2 h) (dsem 3 h) (wordsQ gqM (Memref.isWhole_whole _) c h)
    (wordsO goM (Memref.isWhole_whole _) c h) (slotQ_eq c h) (slotO_eq c h) (dev3_eq c) (dev4_eq c)

theorem credit_q (j : Fin 16) : (qV j).view.dmaCredit = NQ := rfl
theorem credit_o (j : Fin 16) : (oV j).view.dmaCredit = NO := rfl

/-- What lands in a slot of the query weight, by elements: the slot at the sender's contents. -/
theorem landed_q (c : Dev nD) (j : Fin 16) (f g : Buf (Elt F) ((qV j).view.loc (c : Thread nD τ))) :
    ((qV j).view.loc (c : Thread nD τ) ↦[(qV j).view.set]{fullShare}
        ((qV j).view.write (Elt F) f ((qV j).view.read (Elt F) g) Finset.univ) : sProp 𝕄) = qSlot c j g := by
  rw [View.write_read_eq_piecewise]
  exact pointsTo_congr fun i hi => Finset.piecewise_eq_of_mem _ _ _ hi

theorem landed_o (c : Dev nD) (j : Fin 16) (f g : Buf (Elt F) ((oV j).view.loc (c : Thread nD τ))) :
    ((oV j).view.loc (c : Thread nD τ) ↦[(oV j).view.set]{fullShare}
        ((oV j).view.write (Elt F) f ((oV j).view.read (Elt F) g) Finset.univ) : sProp 𝕄) = oSlot c j g := by
  rw [View.write_read_eq_piecewise]
  exact pointsTo_congr fun i hi => Finset.piecewise_eq_of_mem _ _ _ hi

section Body

variable (GQ : QBuf F) (GO : OBuf F) (K : Dev nD × CK → ℕ)

/-- All cells' invariants, at the names `K` the launch allocated them at, and that all are at round 0. -/
def recs : sProp 𝕄 :=
  iprop((bigSep Finset.univ fun ck : Dev nD × CK => cellInv EX (sched GQ GO) (K ck) (kcell ck))
    ∗ bigSep Finset.univ fun ck : Dev nD × CK => reached EX (kcell ck) 0)

instance recs_persistent : BI.Persistent (recs GQ GO K) := by unfold recs; infer_instance

theorem recs_bar (c : Dev nD) : recs GQ GO K ⊢ iprop(cellInv EX (sched GQ GO) (K (c, none)) (barCell c) ∗ reached EX (barCell c) 0) := by
  unfold recs
  exact BI.sep_mono (bigSep_elim (Finset.mem_univ (c, none))) (bigSep_elim (Finset.mem_univ ((c, none) : Dev nD × CK)))

theorem recs_x (c : Dev nD) (a : Fin 4) (h : Fin 15) :
    recs GQ GO K ⊢ iprop(cellInv EX (sched GQ GO) (K (c, some (a, h))) (xCell c a h) ∗ reached EX (xCell c a h) 0) := by
  unfold recs
  exact BI.sep_mono (bigSep_elim (Finset.mem_univ (c, some (a, h)))) (bigSep_elim (Finset.mem_univ ((c, some (a, h)) : Dev nD × CK)))

/-- What device `c` brings to hop `h` from the launch: the duty tokens it pays with, its positions in the hop's four
cells, and the credit of its two arrivals. -/
def hopRes (c : Dev nD) (h : Fin 15) : sProp 𝕄 :=
  iprop((dutyTok EX (xCell c 0 h) 0 false ∗ dutyTok EX (xCell (nxt c) 1 h) 0 false ∗ dutyTok EX (xCell c 2 h) 0 false
      ∗ dutyTok EX (xCell (prv c) 3 h) 0 false)
    ∗ (atPos EX (xCell c 0 h) 0 ∅ 0 ∗ atPos EX (xCell c 1 h) 0 ∅ 0 ∗ atPos EX (xCell c 2 h) 0 ∅ 0 ∗ atPos EX (xCell c 3 h) 0 ∅ 0)
    ∗ cred (tallyAt (xCell c 1 h) () NQ) ∗ cred (tallyAt (xCell c 3 h) () NO))

/-- Before hop `h`: the neighbours' empty slots besides. -/
def todo (c : Dev nD) (h : Fin 15) : sProp 𝕄 :=
  iprop((∃ f, qSlot (F := F) (nxt c) (qix c h.val) f) ∗ (∃ f, oSlot (F := F) (prv c) (oix c h.val) f) ∗ hopRes c h)

/-- The four cells of hop `h`, their counters at zero. -/
def zeros (c : Dev nD) (h : Fin 15) : sProp 𝕄 :=
  iprop(semVal (xCell c 0 h) 0 ∗ semVal (xCell c 1 h) 0 ∗ semVal (xCell c 2 h) 0 ∗ semVal (xCell c 3 h) 0)

/-- After hop `h`: the slots passed on, back, and the four cells closed. -/
def done (c : Dev nD) (h : Fin 15) : sProp 𝕄 :=
  iprop(qSlot c (qix c h.val) GQ ∗ oSlot c (oix c h.val) GO ∗ zeros c h)

/-- What device `c` passes on at hop `n`: two filled slots, and what it owes from there on. -/
def pass (c : Dev nD) (n : ℕ) : sProp 𝕄 :=
  iprop(qSlot c (qix c n) GQ ∗ oSlot c (oix c n) GO ∗ ∃ W, owes (c : Thread nD τ) (owed c n) W)

theorem qix_back (c : Dev nD) (h : Fin 15) : qix (nxt c) (h.val + 1) = qix c h.val := by
  rw [← qix_prv, prv_nxt]
theorem oix_back (c : Dev nD) (h : Fin 15) : oix (prv c) (h.val + 1) = oix c h.val := by
  rw [← oix_nxt, nxt_prv]

set_option maxHeartbeats 1000000 in
/-- The query weight's copy of hop `h`. -/
theorem wp_copyQ (c : Dev nD) (h : Fin 15) (wq : (qV (qix c h.val)).view.WordExact) (O : CellTallies nD τ sig Unit)
    (W : Waits sig Unit) {α : Type} {Q : α → sProp 𝕄} {k : PUnit → P F α} :
    iprop(recs GQ GO K ∗ qSlot c (qix c h.val) GQ ∗ (∃ f, qSlot (F := F) (nxt c) (qix c h.val) f)
        ∗ owes (c : Thread nD τ) (O + tallyAt (xCell (nxt c) 1 h) () NQ) W
        ∗ dutyTok EX (xCell c 0 h) 0 false ∗ dutyTok EX (xCell (nxt c) 1 h) 0 false)
      ⊢ iprop(((cred (tallyAt (xCell c 0 h) () NQ) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qV (qix c h.val)) (.remote (Dev.tc (nxt c) : Thread nD τ) (qV (qix c h.val)) (.dma (dsem 0 h)))
                (.dma (dsem 1 h)) wq wq ⟨⟨rfl, Or.inl rfl⟩, trivial⟩) k) Q) := by
  iintro ⟨#HR, Hs, ⟨%f, Hd⟩, Ho, Ht0, Ht1⟩
  ihave #Hc := recs_x GQ GO K c 0 h $$ HR
  ihave #Hn := recs_x GQ GO K (nxt c) 1 h $$ HR
  icases Hc with ⟨Hci, Hcr⟩
  icases Hn with ⟨Hni, Hnr⟩
  iapply (Rounds.wp_send_pointsTo 𝒱₀ EX (sched GQ GO) (c : Thread nD τ) none (κ₁ := K (c, some (0, h))) (κ₂ := K (nxt c, some (1, h)))
    (c' := (nxt c : Thread nD τ)) (src := qV (qix c h.val)) (dst := qV (qix c h.val)) (fs := GQ) (sS := .dma (dsem 0 h)) (sem := .dma (dsem 1 h))
    (r₁ := 0) (r₂ := 0) (d₁ := false) (d₂ := false) (fd := f)
    (by rw [duties_x]; exact Finset.mem_singleton_self _) (by rw [duties_x]; exact Finset.mem_singleton_self _)
    () () NQ (credit_q _) (amount_x GQ GO c 0 h false) (amount_x GQ GO (nxt c) 1 h false) O rfl (W := W)
    (by rw [payload_x]; exact BI.Entails.refl _)
    (by rw [payload_x]; unfold copyPay; dsimp only; rw [qix_back]; exact Entails.of_eq (landed_q (nxt c) (qix c h.val) f GQ)))
    $$ [Hs Hd Ho Ht0 Ht1]
  isplitr; · iexact Hci
  isplitr; · iexact Hni
  isplitl [Hs]; · unfold qSlot; iexact Hs
  isplitl [Hd]; · unfold qSlot; iexact Hd
  isplitl [Ho]; · iexact Ho
  isplitl [Ht0]; · iexact Ht0
  isplitr; · iexact Hcr
  isplitl [Ht1]; · iexact Ht1
  iexact Hnr

set_option maxHeartbeats 1000000 in
/-- The output weight's copy of hop `h`. -/
theorem wp_copyO (c : Dev nD) (h : Fin 15) (wo : (oV (oix c h.val)).view.WordExact) (O : CellTallies nD τ sig Unit)
    (W : Waits sig Unit) {α : Type} {Q : α → sProp 𝕄} {k : PUnit → P F α} :
    iprop(recs GQ GO K ∗ oSlot c (oix c h.val) GO ∗ (∃ f, oSlot (F := F) (prv c) (oix c h.val) f)
        ∗ owes (c : Thread nD τ) (O + tallyAt (xCell (prv c) 3 h) () NO) W
        ∗ dutyTok EX (xCell c 2 h) 0 false ∗ dutyTok EX (xCell (prv c) 3 h) 0 false)
      ⊢ iprop(((cred (tallyAt (xCell c 2 h) () NO) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oV (oix c h.val)) (.remote (Dev.tc (prv c) : Thread nD τ) (oV (oix c h.val)) (.dma (dsem 2 h)))
                (.dma (dsem 3 h)) wo wo ⟨⟨rfl, Or.inl rfl⟩, trivial⟩) k) Q) := by
  iintro ⟨#HR, Hs, ⟨%f, Hd⟩, Ho, Ht0, Ht1⟩
  ihave #Hc := recs_x GQ GO K c 2 h $$ HR
  ihave #Hn := recs_x GQ GO K (prv c) 3 h $$ HR
  icases Hc with ⟨Hci, Hcr⟩
  icases Hn with ⟨Hni, Hnr⟩
  iapply (Rounds.wp_send_pointsTo 𝒱₀ EX (sched GQ GO) (c : Thread nD τ) none (κ₁ := K (c, some (2, h))) (κ₂ := K (prv c, some (3, h)))
    (c' := (prv c : Thread nD τ)) (src := oV (oix c h.val)) (dst := oV (oix c h.val)) (fs := GO) (sS := .dma (dsem 2 h)) (sem := .dma (dsem 3 h))
    (r₁ := 0) (r₂ := 0) (d₁ := false) (d₂ := false) (fd := f)
    (by rw [duties_x]; exact Finset.mem_singleton_self _) (by rw [duties_x]; exact Finset.mem_singleton_self _)
    () () NO (credit_o _) (amount_x GQ GO c 2 h false) (amount_x GQ GO (prv c) 3 h false) O rfl (W := W)
    (by rw [payload_x]; exact BI.Entails.refl _)
    (by rw [payload_x]; unfold copyPay; dsimp only; rw [oix_back]; exact Entails.of_eq (landed_o (prv c) (oix c h.val) f GO)))
    $$ [Hs Hd Ho Ht0 Ht1]
  isplitr; · iexact Hci
  isplitr; · iexact Hni
  isplitl [Hs]; · unfold oSlot; iexact Hs
  isplitl [Hd]; · unfold oSlot; iexact Hd
  isplitl [Ho]; · iexact Ho
  isplitl [Ht0]; · iexact Ht0
  isplitr; · iexact Hcr
  isplitl [Ht1]; · iexact Ht1
  iexact Hnr

set_option maxHeartbeats 1000000 in
/-- A wait of hop `h` on one of its four cells: what the cell hands over, and the cell closed. -/
theorem wp_wait_x (c : Dev nD) (a : Fin 4) (h : Fin 15) {s : Shape} {src dst : Memref sig .tc .vmem s .bf16}
    (w1 : src.view.WordExact) (w2 : dst.view.WordExact) (hcr : dst.view.dmaCredit = NX a) (W : Waits sig Unit)
    {α : Type} {Q : α → sProp 𝕄} {k : PUnit → P F α} :
    iprop(recs GQ GO K ∗ levAts L lv ∗ cred (tallyAt (xCell c a h) () (NX a)) ∗ owes (c : Thread nD τ) (owed c (h.val + 1)) W
        ∗ atPos EX (xCell c a h) 0 ∅ 0)
      ⊢ iprop(((∃ W', owes (c : Thread nD τ) (owed c (h.val + 1)) W') -∗ copyPay GQ GO c a h -∗ semVal (xCell c a h) 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem a h) src dst w1 w2) k) Q) := by
  iintro ⟨#HR, #Hlev, Hcr, HO, Hat⟩ Hk
  ihave #Hc := recs_x GQ GO K c a h $$ HR
  icases Hc with ⟨Hci, -⟩
  iapply (Rounds.wp_wait_rest_token 𝒱₀ EX (sched GQ GO) (c : Thread nD τ) none (κ := K (c, some (a, h)))
      (wpE_waitDma2_eq 𝒱₀ (c : Thread nD τ) none Set.univ) (Set.mem_univ _) () (O := owed c (h.val + 1)) (W := W) (R := 0) (m := 0) (T := ∅)
      (by rw [Nat.zero_add, expect_x]; exact hcr)) $$ [Hcr HO Hat]
  · isplitr; · iexact Hci
    isplitl [Hcr]; · rw [hcr]; iexact Hcr
    isplitl [HO]; · iexact HO
    isplitr; · iapply (mayWait_x c a h); iexact Hlev
    iexact Hat
  iintro ⟨HO, Hat, -, Hpay⟩
  ihave Hpay := (Entails.of_eq (rest_x GQ GO c a h)) $$ Hpay
  imod (Rounds.cell_close EX (sched GQ GO) (Set.mem_univ (K (c, some (a, h)))) (fun h => h) (R := 0 + 1) (duties_later GQ GO (xCell c a h))) $$ [Hat] with Hz
  · isplitr; · iexact Hci
    iexact Hat
  iapply Hk $$ [HO] [Hpay] [Hz]
  · iexists _; iexact HO
  · iexact Hpay
  · iexact Hz

set_option maxHeartbeats 1000000 in
/-- One hop. -/
theorem wp_hop (c : Dev nD) (h : Fin 15) (Kt : PUnit → sProp 𝕄) :
    iprop(recs GQ GO K ∗ levAts L lv ∗ todo c h ∗ pass GQ GO c h.val
        ∗ ((done GQ GO c h ∗ pass GQ GO c (h.val + 1)) -∗ Kt ⟨⟩))
      ⊢ wp frame (wpE (defs₀ (F := F)) 𝒱₀ (c : Thread nD τ) none) Set.univ
          (hop gqM (Memref.isWhole_whole _) goM (Memref.isWhole_whole _) cc0_scratch4 cc0_scratch5 cc0_scratch6 cc0_scratch7 c h) Kt := by
  obtain ⟨wq, wo, e⟩ := hop_eq (F := F) c h
  rw [e]
  unfold hopAt
  simp only [Prog.lift, Prog.bind_op, Prog.bind_ret, Prog.pure_eq_ret]
  unfold todo hopRes pass
  rw [owed_step]
  iintro ⟨#HR, #Hlev, ⟨Hq, Ho, ⟨Ht0, Ht1, Ht2, Ht3⟩, ⟨Ha0, Ha1, Ha2, Ha3⟩, Hc1, Hc3⟩, ⟨Hsq, Hso, %W, HO⟩, Hk⟩
  iapply (wp_copyQ GQ GO K c h wq _ W) $$ [Hsq Hq HO Ht0 Ht1]
  · isplitr; · iexact HR
    isplitl [Hsq]; · iexact Hsq
    isplitl [Hq]; · iexact Hq
    isplitl [HO]; · iexact HO
    isplitl [Ht0]; · iexact Ht0
    iexact Ht1
  iintro ⟨Hc0, HO⟩
  iapply (wp_copyO GQ GO K c h wo _ W) $$ [Hso Ho HO Ht2 Ht3]
  · isplitr; · iexact HR
    isplitl [Hso]; · iexact Hso
    isplitl [Ho]; · iexact Ho
    isplitl [HO]; · iexact HO
    isplitl [Ht2]; · iexact Ht2
    iexact Ht3
  iintro ⟨Hc2, HO⟩
  iapply (wp_wait_x GQ GO K c 0 h wq wq (credit_q _) W) $$ [Hc0 HO Ha0]
  · isplitr; · iexact HR
    isplitr; · iexact Hlev
    isplitl [Hc0]; · iexact Hc0
    isplitl [HO]; · iexact HO
    iexact Ha0
  iintro ⟨%W0, HO⟩ Hp0 Hz0
  iapply (wp_wait_x GQ GO K c 1 h wq wq (credit_q _) W0) $$ [Hc1 HO Ha1]
  · isplitr; · iexact HR
    isplitr; · iexact Hlev
    isplitl [Hc1]; · iexact Hc1
    isplitl [HO]; · iexact HO
    iexact Ha1
  iintro ⟨%W1, HO⟩ Hp1 Hz1
  iapply (wp_wait_x GQ GO K c 2 h wo wo (credit_o _) W1) $$ [Hc2 HO Ha2]
  · isplitr; · iexact HR
    isplitr; · iexact Hlev
    isplitl [Hc2]; · iexact Hc2
    isplitl [HO]; · iexact HO
    iexact Ha2
  iintro ⟨%W2, HO⟩ Hp2 Hz2
  iapply (wp_wait_x GQ GO K c 3 h wo wo (credit_o _) W2) $$ [Hc3 HO Ha3]
  · isplitr; · iexact HR
    isplitr; · iexact Hlev
    isplitl [Hc3]; · iexact Hc3
    isplitl [HO]; · iexact HO
    iexact Ha3
  iintro ⟨%W3, HO⟩ Hp3 Hz3
  rw [wp_ret]; imodintro
  iapply Hk
  unfold done zeros copyPay
  dsimp only
  isplitl [Hp0 Hp2 Hz0 Hz1 Hz2 Hz3]
  · isplitl [Hp0]; · iexact Hp0
    isplitl [Hp2]; · iexact Hp2
    isplitl [Hz0]; · iexact Hz0
    isplitl [Hz1]; · iexact Hz1
    isplitl [Hz2] <;> iassumption
  · isplitl [Hp1]; · iexact Hp1
    isplitl [Hp3]; · iexact Hp3
    iexists _; iexact HO

/-- Before hop `n`: the hops before `n` done, the others to do. -/
def prog (c : Dev nD) (n : ℕ) (h : Fin 15) : sProp 𝕄 := if h.val < n then done GQ GO c h else todo c h

theorem prog_step (c : Dev nD) (h : Fin 15) :
    ∃ R : sProp 𝕄, bigSep Finset.univ (prog GQ GO c h.val) = iprop(todo c h ∗ R)
      ∧ bigSep Finset.univ (prog GQ GO c (h.val + 1)) = iprop(done GQ GO c h ∗ R) := by
  refine ⟨bigSep (Finset.univ.erase h) (prog GQ GO c h.val), ?_, ?_⟩
  · rw [bigSep_univ_split h, prog, if_neg (lt_irrefl _)]; rfl
  · rw [bigSep_univ_split h, prog, if_pos (Nat.lt_succ_self _),
      bigSep_congr (s := Finset.univ.erase h) (Ψ := prog GQ GO c h.val) fun h' hh' => by
        have hne : h'.val ≠ h.val := fun e => (Finset.mem_erase.mp hh').1 (Fin.ext e)
        unfold prog
        by_cases hlt : h'.val < h.val
        · rw [if_pos hlt, if_pos (by omega)]
        · rw [if_neg hlt, if_neg (by omega)]]
    rfl

/-- The first `n` hops. -/
theorem wp_hops (c : Dev nD) (n : ℕ) (hn : n ≤ 15) (Kt : PUnit → sProp 𝕄) :
    iprop(recs GQ GO K ∗ levAts L lv ∗ bigSep Finset.univ (prog GQ GO c 0) ∗ pass GQ GO c 0
        ∗ ((bigSep Finset.univ (prog GQ GO c n) ∗ pass GQ GO c n) -∗ Kt ⟨⟩))
      ⊢ wp frame (wpE (defs₀ (F := F)) 𝒱₀ (c : Thread nD τ) none) Set.univ
          (hops gqM (Memref.isWhole_whole _) goM (Memref.isWhole_whole _) cc0_scratch4 cc0_scratch5 cc0_scratch6 cc0_scratch7 c n) Kt := by
  induction n generalizing Kt with
  | zero =>
    show _ ⊢ wp frame _ Set.univ (Prog.ret (PUnit.unit)) Kt
    rw [wp_ret]
    iintro ⟨-, -, Hp, Hs, Hk⟩
    imodintro
    iapply Hk
    isplitl [Hp] <;> iassumption
  | succ n ih =>
    have e : hops (F := F) gqM (Memref.isWhole_whole _) goM (Memref.isWhole_whole _) cc0_scratch4 cc0_scratch5 cc0_scratch6 cc0_scratch7 c (n + 1)
        = hops gqM (Memref.isWhole_whole _) goM (Memref.isWhole_whole _) cc0_scratch4 cc0_scratch5 cc0_scratch6 cc0_scratch7 c n
          >>= fun _ => hop gqM (Memref.isWhole_whole _) goM (Memref.isWhole_whole _) cc0_scratch4 cc0_scratch5 cc0_scratch6 cc0_scratch7 c (Fin.ofNat 15 n) := rfl
    have hv : (Fin.ofNat 15 n).val = n := Nat.mod_eq_of_lt hn
    obtain ⟨R, h1, h2⟩ := prog_step GQ GO c (Fin.ofNat 15 n)
    rw [hv] at h1 h2
    have hw := wp_hop GQ GO K c (Fin.ofNat 15 n) Kt
    rw [hv] at hw
    rw [e, wp_bind]
    iintro ⟨#HR, #Hlev, Hp, Hs, Hk⟩
    iapply (ih (by omega) _)
    isplitr; · iexact HR
    isplitr; · iexact Hlev
    isplitl [Hp]; · iexact Hp
    isplitl [Hs]; · iexact Hs
    iintro ⟨Hp, Hs⟩
    ihave Hp := (Entails.of_eq h1) $$ Hp
    icases Hp with ⟨Ht, Hr⟩
    iapply hw
    isplitr; · iexact HR
    isplitr; · iexact Hlev
    isplitl [Ht]; · iexact Ht
    isplitl [Hs]; · iexact Hs
    iintro ⟨Hd, Hs⟩
    iapply Hk
    isplitl [Hd Hr]
    · iapply (Entails.of_eq h2.symm)
      isplitl [Hd] <;> iassumption
    · iexact Hs

end Body

end Cert.KernelIdeal.Own

end
-- ==== Proof.Compute.lean ====
/- What a device computes once its two gathered weights are whole: the copies of the keys and values, the sixteen blocks
   of each batch by induction on the block, and the result they leave. -/
module

public import proofs.«01_k».proof.Proof.Hop
public import Idealize.ShloMosaic.Lib.Pointwise

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The values -/

/-- The keys (or values) of head `4 j + a` in batch `b`. -/
def kvAt (b : Fin 2) (j : Fin 16) (a : Fin 4) (f : Vec F S2x128x64x64 .bf16) : Vec F S1x128x1x64 .bf16 :=
  fun i => f (ix4 b (i 1) ⟨4 * j.val + a.val, by omega⟩ (i 3))

/-- Block `j` of the gathered query weight. -/
def wqAt (j : Fin 16) (f : Vec F S16x512x256 .bf16) : Vec F S1x512x256 .bf16 := fun i => f (ix3 j (i 1) (i 2))
/-- Block `j` of the gathered output weight. -/
def woAt (j : Fin 16) (f : Vec F S16x256x512 .bf16) : Vec F S1x256x512 .bf16 := fun i => f (ix3 j (i 1) (i 2))

section Vals

variable (mask : IVec S128x128 1) (keep : IVec S128x1 1) (x : Vec F S2x128x512 .bf16) (gq : Vec F S16x512x256 .bf16)
  (go : Vec F S16x256x512 .bf16) (ks vs : Vec F S2x128x64x64 .bf16) (b : Fin 2)

/-- Head `a` of block `j`. -/
def headV (j : Fin 16) (q : FVec F S128x256 .bf16) (a : Fin 4) : FVec F S128x64 .bf16 :=
  headOf mask keep q a (kvAt b j a ks) (kvAt b j a vs)

/-- Block `j` added to `acc`. -/
def blockV (j : Fin 16) (acc : FVec F S128x512 .f32) : FVec F S128x512 .f32 :=
  accOf acc (headV mask keep ks vs b j (qOf x b (wqAt j gq)) 0) (headV mask keep ks vs b j (qOf x b (wqAt j gq)) 1)
    (headV mask keep ks vs b j (qOf x b (wqAt j gq)) 2) (headV mask keep ks vs b j (qOf x b (wqAt j gq)) 3) (woAt j go)

/-- The sum of the first `n` blocks. -/
def blocksV (n : ℕ) : FVec F S128x512 .f32 :=
  Nat.rec (k0_pay13 (F := F)) (fun n acc => blockV mask keep x gq go ks vs b (Fin.ofNat 16 n) acc) n

theorem blocksV_succ (n : ℕ) :
    blocksV mask keep x gq go ks vs b (n + 1)
      = blockV mask keep x gq go ks vs b (Fin.ofNat 16 n) (blocksV mask keep x gq go ks vs b n) := rfl

theorem blocksV_zero : blocksV mask keep x gq go ks vs b 0 = k0_pay13 (F := F) := rfl

attribute [irreducible] blocksV

/-- The whole result: batch by batch, the sum of the sixteen blocks. -/
def outV : FVec F S2x128x512 .f32 := fun i => blocksV mask keep x gq go ks vs (i 0) 16 (ix2 (i 1) (i 2))

end Vals

/-! ## Reads and writes of the buffers -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem kv_emb (b : Fin 2) (j : Fin 16) (a : Fin 4) (i : S1x128x1x64.Idx) :
    (Rect.unit (s := S2x128x64x64) ![b.val, 0, 4 * j.val + a.val, 0] S1x128x1x64.size (inb_kv b j a)).emb i
      = ix4 b (i 1) ⟨4 * j.val + a.val, by omega⟩ (i 3) := by
  have h0 : (i 0).val < 1 := (i 0).isLt
  have h2 : (i 2).val < 1 := (i 2).isLt
  funext d
  apply Fin.ext
  fin_cases d
  · show b.val + 1 * (i 0).val = b.val; omega
  · show 0 + 1 * (i 1).val = (i 1).val; omega
  · show 4 * j.val + a.val + 1 * (i 2).val = 4 * j.val + a.val; omega
  · show 0 + 1 * (i 3).val = (i 3).val; omega

theorem read_ks (b : Fin 2) (j : Fin 16) (a : Fin 4) (f : (cc0_scratch2 : Ref sig .tc).ty.Contents (Elt F)) :
    (ksM : Memref sig .tc .vmem S2x128x64x64 .bf16).view.readAt (Elt F)
        (Rect.unit (s := S2x128x64x64) ![b.val, 0, 4 * j.val + a.val, 0] S1x128x1x64.size (inb_kv b j a)).toLoadRect f
      = kvAt (F := F) b j a f := by
  funext i
  exact congrArg f (kv_emb b j a i)

theorem read_vs (b : Fin 2) (j : Fin 16) (a : Fin 4) (f : (cc0_scratch3 : Ref sig .tc).ty.Contents (Elt F)) :
    (vsM : Memref sig .tc .vmem S2x128x64x64 .bf16).view.readAt (Elt F)
        (Rect.unit (s := S2x128x64x64) ![b.val, 0, 4 * j.val + a.val, 0] S1x128x1x64.size (inb_kv b j a)).toLoadRect f
      = kvAt (F := F) b j a f := by
  funext i
  exact congrArg f (kv_emb b j a i)

theorem wq_emb (j : Fin 16) (i : S1x512x256.Idx) :
    (Rect.unit (s := S16x512x256) ![j.val, 0, 0] S1x512x256.size (inb_q j)).emb i = ix3 j (i 1) (i 2) := by
  have h0 : (i 0).val < 1 := (i 0).isLt
  funext d
  apply Fin.ext
  fin_cases d
  · show j.val + 1 * (i 0).val = j.val; omega
  · show 0 + 1 * (i 1).val = (i 1).val; omega
  · show 0 + 1 * (i 2).val = (i 2).val; omega

theorem wo_emb (j : Fin 16) (i : S1x256x512.Idx) :
    (Rect.unit (s := S16x256x512) ![j.val, 0, 0] S1x256x512.size (inb_o j)).emb i = ix3 j (i 1) (i 2) := by
  have h0 : (i 0).val < 1 := (i 0).isLt
  funext d
  apply Fin.ext
  fin_cases d
  · show j.val + 1 * (i 0).val = j.val; omega
  · show 0 + 1 * (i 1).val = (i 1).val; omega
  · show 0 + 1 * (i 2).val = (i 2).val; omega

theorem out_emb (b : Fin 2) (i : S1x128x512.Idx) :
    (Rect.unit (s := S2x128x512) ![b.val, 0, 0] S1x128x512.size (inb_batch b)).emb i = ix3 b (i 1) (i 2) := by
  have h0 : (i 0).val < 1 := (i 0).isLt
  funext d
  apply Fin.ext
  fin_cases d
  · show b.val + 1 * (i 0).val = b.val; omega
  · show 0 + 1 * (i 1).val = (i 1).val; omega
  · show 0 + 1 * (i 2).val = (i 2).val; omega

theorem read_gq (j : Fin 16) (f : QBuf F) :
    (gqM : Memref sig .tc .vmem S16x512x256 .bf16).view.readAt (Elt F)
        (Rect.unit (s := S16x512x256) ![j.val, 0, 0] S1x512x256.size (inb_q j)).toLoadRect f = wqAt (F := F) j f := by
  funext i
  exact congrArg f (wq_emb j i)

theorem read_go (j : Fin 16) (f : OBuf F) :
    (goM : Memref sig .tc .vmem S16x256x512 .bf16).view.readAt (Elt F)
        (Rect.unit (s := S16x256x512) ![j.val, 0, 0] S1x256x512.size (inb_o j)).toLoadRect f = woAt (F := F) j f := by
  funext i
  exact congrArg f (wo_emb j i)

abbrev OutBuf (F : FTy → Type) [FloatOps F] : Type := (cc0_stg5_0 : Ref sig .tc).ty.Contents (Elt F)

/-- A store through a rectangle of a whole buffer, read at the rectangle's own indices -/
theorem write_at (b : Ref sig .tc) (r : Rect b.ty.shape) (f : b.ty.Contents (Elt F)) (w : r.shape.Idx → Elt F b.ty.elt)
    (x : r.shape.Idx) (i : b.ty.Idx) (h : r.emb x = i) :
    ((Memref.whole b).access r : View sig .tc _ _ _).write (Elt F) f w Finset.univ i = w x := by
  subst h
  exact (View.write_emb_of_mem (v := ((Memref.whole b).access r : View sig .tc _ _ _)) f w (Finset.mem_univ x)).trans (cast_eq _ _)

/-- and away from them. -/
theorem write_off (b : Ref sig .tc) (r : Rect b.ty.shape) (f : b.ty.Contents (Elt F)) (w : r.shape.Idx → Elt F b.ty.elt)
    (i : b.ty.Idx) (h : ∀ x, r.emb x ≠ i) :
    ((Memref.whole b).access r : View sig .tc _ _ _).write (Elt F) f w Finset.univ i = f i :=
  View.write_of_not_mem (v := ((Memref.whole b).access r : View sig .tc _ _ _)) f w _ fun hm => by
    obtain ⟨x, -, hx⟩ := Finset.mem_map.mp hm
    exact h x hx

/-- The result buffer after batch `b`'s half is stored. -/
def storeOut (f : OutBuf F) (b : Fin 2) (w : FVec F S128x512 .f32) : OutBuf F :=
  ((outM : Memref sig .tc .vmem S2x128x512 .f32).access
    (Rect.unit (s := S2x128x512) ![b.val, 0, 0] S1x128x512.size (inb_batch b)) : View sig .tc _ _ _).write (Elt F) f
      (shapeCast S1x128x512 w shapeCasts_S128x512_S1x128x512) Finset.univ

/-- The half stored. -/
theorem storeOut_same (f : OutBuf F) (b : Fin 2) (w : FVec F S128x512 .f32) (p : Fin 128) (e : Fin 512) :
    storeOut f b w (ix3 b p e) = shapeCast S1x128x512 w shapeCasts_S128x512_S1x128x512 (ix3 0 p e) :=
  write_at cc0_stg5_0 (Rect.unit (s := S2x128x512) ![b.val, 0, 0] S1x128x512.size (inb_batch b)) f _
    (ix3 (0 : Fin 1) p e) (ix3 b p e) (out_emb b (ix3 0 p e))

/-- The other half, kept. -/
theorem storeOut_other (f : OutBuf F) (b b' : Fin 2) (hb : b' ≠ b) (w : FVec F S128x512 .f32) (p : Fin 128) (e : Fin 512) :
    storeOut f b w (ix3 b' p e) = f (ix3 b' p e) :=
  write_off cc0_stg5_0 (Rect.unit (s := S2x128x512) ![b.val, 0, 0] S1x128x512.size (inb_batch b)) f _
    (ix3 b' p e) fun i hi => by
      have h : (ix3 b (i 1) (i 2) : S2x128x512.Idx) = ix3 b' p e := (out_emb b i).symm.trans hi
      exact hb (congrFun h 0).symm

/-- The two halves stored are the whole result. -/
theorem store_both (mask : IVec S128x128 1) (keep : IVec S128x1 1) (x : Vec F S2x128x512 .bf16) (gq : QBuf F) (go : OBuf F)
    (ks vs : Vec F S2x128x64x64 .bf16) (f : OutBuf F) :
    storeOut (storeOut f 0 (blocksV mask keep x gq go ks vs 0 16)) 1 (blocksV mask keep x gq go ks vs 1 16)
      = outV mask keep x gq go ks vs := by
  funext i
  have hl (w : FVec F S128x512 .f32) (p : Fin 128) (e : Fin 512) :
      shapeCast S1x128x512 w shapeCasts_S128x512_S1x128x512 (ix3 0 p e) = w (ix2 p e) := by pointwise
  obtain ⟨b, p, e, rfl⟩ : ∃ (b : Fin 2) (p : Fin 128) (e : Fin 512), i = ix3 b p e := ⟨i 0, i 1, i 2, by idx_vars i⟩
  fin_cases b
  · exact (storeOut_other _ 1 0 (by decide) _ p e).trans ((storeOut_same f 0 _ p e).trans (hl _ p e))
  · exact (storeOut_same _ 1 _ p e).trans (hl _ p e)

/-! ## The rules -/

section Rules

variable (c : Dev nD) {α : Type} {Q : α → sProp 𝕄}

/-- The access of slot `j` and the slot's own set. -/
theorem q_access_set (j : Fin 16) :
    ((gqM : Memref sig .tc .vmem S16x512x256 .bf16).access (Rect.unit (s := S16x512x256) ![j.val, 0, 0] S1x512x256.size (inb_q j))).set
      = (qV j).view.set := (View.set_reshape _ _).symm
theorem o_access_set (j : Fin 16) :
    ((goM : Memref sig .tc .vmem S16x256x512 .bf16).access (Rect.unit (s := S16x256x512) ![j.val, 0, 0] S1x256x512.size (inb_o j))).set
      = (oV j).view.set := (View.set_reshape _ _).symm

/-- A read of slot `j` before it is stored. -/
theorem wp_peek_q (j : Fin 16) (f : QBuf F) (off : Fin 3 → ℕ) (ho : off = ![j.val, 0, 0])
    (inb : ∀ a, off a + S1x512x256.size a ≤ S16x512x256.size a)
    (hl : (gqM : Memref sig .tc .vmem S16x512x256 .bf16).view.LoadsAt (Rect.unit (s := S16x512x256) off S1x512x256.size inb).toLoadRect)
    {k : Vec F S1x512x256 .bf16 → P F α} {Q : α → sProp 𝕄} :
    qSlot c j f ⊢ iprop((∀ v, qSlot c j f -∗ wp frame (wpE (defs₀ (F := F)) 𝒱₀ (c : Thread nD τ) none) Set.univ (k v) Q)
      -∗ wp frame (wpE (defs₀ (F := F)) 𝒱₀ (c : Thread nD τ) none) Set.univ
          (.op (.load gqM (Rect.unit (s := S16x512x256) off S1x512x256.size inb).toLoadRect hl) k) Q) := by
  subst ho
  have h : qSlot c j f ⊢ iprop((qSlot c j f -∗ wp frame (wpE (defs₀ (F := F)) 𝒱₀ (c : Thread nD τ) none) Set.univ
        (k ((gqM : Memref sig .tc .vmem S16x512x256 .bf16).view.readAt (Elt F) (Rect.unit (s := S16x512x256) ![j.val, 0, 0] S1x512x256.size inb).toLoadRect f)) Q)
      -∗ wp frame (wpE (defs₀ (F := F)) 𝒱₀ (c : Thread nD τ) none) Set.univ
          (.op (.load gqM (Rect.unit (s := S16x512x256) ![j.val, 0, 0] S1x512x256.size inb).toLoadRect hl) k) Q) :=
    wp_load_rect 𝒱₀ (c : Thread nD τ) none Set.univ (defs := defs₀ (F := F)) (m := gqM)
      (hl := hl) (k := k) (Q := Q) (S := (qV j).view.set) (q := fullShare) (f := f)
      (r := Rect.unit (s := S16x512x256) ![j.val, 0, 0] S1x512x256.size inb) (q_access_set j).subset
  iintro H Hk
  iapply h $$ H
  iintro H
  iapply Hk
  iexact H

/-- The gathered buffer after `w` is stored in slot `j`. -/
def storeWQ (f : QBuf F) (j : Fin 16) (w : Vec F S1x512x256 .bf16) : QBuf F :=
  ((gqM : Memref sig .tc .vmem S16x512x256 .bf16).access
    (Rect.unit (s := S16x512x256) ![j.val, 0, 0] S1x512x256.size (inb_q j)) : View sig .tc _ _ _).write (Elt F) f w Finset.univ

/-- On slot `j` it agrees with any contents whose block `j` is `w`. -/
theorem storeWQ_at (j : Fin 16) (f G : QBuf F) (w : Vec F S1x512x256 .bf16) (hw : wqAt j G = w) (i : S16x512x256.Idx)
    (hj : (i 0).val = j.val) : storeWQ f j w i = G i := by
  have he : (ix3 j (i 1) (i 2) : S16x512x256.Idx) = i := by
    funext d
    apply Fin.ext
    fin_cases d
    · exact hj.symm
    · rfl
    · rfl
  refine (write_at cc0_scratch0 (Rect.unit (s := S16x512x256) ![j.val, 0, 0] S1x512x256.size (inb_q j)) f w
    (ix3 (0 : Fin 1) (i 1) (i 2)) i ((wq_emb j (ix3 (0 : Fin 1) (i 1) (i 2))).trans he)).trans ?_
  rw [← hw]
  exact congrArg G he

theorem storeWQ_slot (j : Fin 16) (f G : QBuf F) (w : Vec F S1x512x256 .bf16) (hw : wqAt j G = w) :
    (qSlot c j (storeWQ f j w) : sProp 𝕄) = qSlot c j G := by
  unfold qSlot
  exact pointsTo_congr fun i hi => storeWQ_at j f G w hw i ((mem_qV j i).mp hi)

/-- The store of slot `j`. -/
theorem wp_fill_q (j : Fin 16) (f G : QBuf F) (off : Fin 3 → ℕ) (ho : off = ![j.val, 0, 0])
    (inb : ∀ a, off a + S1x512x256.size a ≤ S16x512x256.size a) (w : Vec F S1x512x256 .bf16) (hw : wqAt j G = w)
    (hx : ((gqM : Memref sig .tc .vmem S16x512x256 .bf16).access (Rect.unit (s := S16x512x256) off S1x512x256.size inb)).Stores Finset.univ)
    (hm) {k : PUnit → P F α} {Q : α → sProp 𝕄} :
    qSlot c j f ⊢ iprop((qSlot c j G -∗ wp frame (wpE (defs₀ (F := F)) 𝒱₀ (c : Thread nD τ) none) Set.univ (k ⟨⟩) Q)
      -∗ wp frame (wpE (defs₀ (F := F)) 𝒱₀ (c : Thread nD τ) none) Set.univ
          (.op (.store gqM (Rect.unit (s := S16x512x256) off S1x512x256.size inb) w Finset.univ hx hm) k) Q) := by
  subst ho
  have e : qSlot c j (storeWQ f j w) = qSlot c j G := storeWQ_slot c j f G w hw
  have h : qSlot c j f ⊢ iprop((qSlot c j (storeWQ f j w) -∗ wp frame (wpE (defs₀ (F := F)) 𝒱₀ (c : Thread nD τ) none) Set.univ (k ⟨⟩) Q)
      -∗ wp frame (wpE (defs₀ (F := F)) 𝒱₀ (c : Thread nD τ) none) Set.univ
          (.op (.store gqM (Rect.unit (s := S16x512x256) ![j.val, 0, 0] S1x512x256.size inb) w Finset.univ hx hm) k) Q) :=
    wp_store 𝒱₀ (c : Thread nD τ) none Set.univ (defs := defs₀ (F := F)) (m := gqM) (Mk := Finset.univ)
      (hx := hx) (hm := hm) (w := w) (k := k) (Q := Q) (S := (qV j).view.set) (f := f)
      (r := Rect.unit (s := S16x512x256) ![j.val, 0, 0] S1x512x256.size inb) (q_access_set j).subset
  iintro H Hk
  iapply h $$ H
  iintro H
  iapply Hk
  iapply (Entails.of_eq e)
  iexact H

/-- The same for the output weight. -/
theorem wp_peek_o (j : Fin 16) (f : OBuf F) (off : Fin 3 → ℕ) (ho : off = ![j.val, 0, 0])
    (inb : ∀ a, off a + S1x256x512.size a ≤ S16x256x512.size a)
    (hl : (goM : Memref sig .tc .vmem S16x256x512 .bf16).view.LoadsAt (Rect.unit (s := S16x256x512) off S1x256x512.size inb).toLoadRect)
    {k : Vec F S1x256x512 .bf16 → P F α} {Q : α → sProp 𝕄} :
    oSlot c j f ⊢ iprop((∀ v, oSlot c j f -∗ wp frame (wpE (defs₀ (F := F)) 𝒱₀ (c : Thread nD τ) none) Set.univ (k v) Q)
      -∗ wp frame (wpE (defs₀ (F := F)) 𝒱₀ (c : Thread nD τ) none) Set.univ
          (.op (.load goM (Rect.unit (s := S16x256x512) off S1x256x512.size inb).toLoadRect hl) k) Q) := by
  subst ho
  have h : oSlot c j f ⊢ iprop((oSlot c j f -∗ wp frame (wpE (defs₀ (F := F)) 𝒱₀ (c : Thread nD τ) none) Set.univ
        (k ((goM : Memref sig .tc .vmem S16x256x512 .bf16).view.readAt (Elt F) (Rect.unit (s := S16x256x512) ![j.val, 0, 0] S1x256x512.size inb).toLoadRect f)) Q)
      -∗ wp frame (wpE (defs₀ (F := F)) 𝒱₀ (c : Thread nD τ) none) Set.univ
          (.op (.load goM (Rect.unit (s := S16x256x512) ![j.val, 0, 0] S1x256x512.size inb).toLoadRect hl) k) Q) :=
    wp_load_rect 𝒱₀ (c : Thread nD τ) none Set.univ (defs := defs₀ (F := F)) (m := goM)
      (hl := hl) (k := k) (Q := Q) (S := (oV j).view.set) (q := fullShare) (f := f)
      (r := Rect.unit (s := S16x256x512) ![j.val, 0, 0] S1x256x512.size inb) (o_access_set j).subset
  iintro H Hk
  iapply h $$ H
  iintro H
  iapply Hk
  iexact H

/-- The gathered buffer after `w` is stored in slot `j`. -/
def storeWO (f : OBuf F) (j : Fin 16) (w : Vec F S1x256x512 .bf16) : OBuf F :=
  ((goM : Memref sig .tc .vmem S16x256x512 .bf16).access
    (Rect.unit (s := S16x256x512) ![j.val, 0, 0] S1x256x512.size (inb_o j)) : View sig .tc _ _ _).write (Elt F) f w Finset.univ

/-- On slot `j` it agrees with any contents whose block `j` is `w`. -/
theorem storeWO_at (j : Fin 16) (f G : OBuf F) (w : Vec F S1x256x512 .bf16) (hw : woAt j G = w) (i : S16x256x512.Idx)
    (hj : (i 0).val = j.val) : storeWO f j w i = G i := by
  have he : (ix3 j (i 1) (i 2) : S16x256x512.Idx) = i := by
    funext d
    apply Fin.ext
    fin_cases d
    · exact hj.symm
    · rfl
    · rfl
  refine (write_at cc0_scratch1 (Rect.unit (s := S16x256x512) ![j.val, 0, 0] S1x256x512.size (inb_o j)) f w
    (ix3 (0 : Fin 1) (i 1) (i 2)) i ((wo_emb j (ix3 (0 : Fin 1) (i 1) (i 2))).trans he)).trans ?_
  rw [← hw]
  exact congrArg G he

theorem storeWO_slot (j : Fin 16) (f G : OBuf F) (w : Vec F S1x256x512 .bf16) (hw : woAt j G = w) :
    (oSlot c j (storeWO f j w) : sProp 𝕄) = oSlot c j G := by
  unfold oSlot
  exact pointsTo_congr fun i hi => storeWO_at j f G w hw i ((mem_oV j i).mp hi)

/-- The same for the output weight. -/
theorem wp_fill_o (j : Fin 16) (f G : OBuf F) (off : Fin 3 → ℕ) (ho : off = ![j.val, 0, 0])
    (inb : ∀ a, off a + S1x256x512.size a ≤ S16x256x512.size a) (w : Vec F S1x256x512 .bf16) (hw : woAt j G = w)
    (hx : ((goM : Memref sig .tc .vmem S16x256x512 .bf16).access (Rect.unit (s := S16x256x512) off S1x256x512.size inb)).Stores Finset.univ)
    (hm) {k : PUnit → P F α} {Q : α → sProp 𝕄} :
    oSlot c j f ⊢ iprop((oSlot c j G -∗ wp frame (wpE (defs₀ (F := F)) 𝒱₀ (c : Thread nD τ) none) Set.univ (k ⟨⟩) Q)
      -∗ wp frame (wpE (defs₀ (F := F)) 𝒱₀ (c : Thread nD τ) none) Set.univ
          (.op (.store goM (Rect.unit (s := S16x256x512) off S1x256x512.size inb) w Finset.univ hx hm) k) Q) := by
  subst ho
  have e : oSlot c j (storeWO f j w) = oSlot c j G := storeWO_slot c j f G w hw
  have h : oSlot c j f ⊢ iprop((oSlot c j (storeWO f j w) -∗ wp frame (wpE (defs₀ (F := F)) 𝒱₀ (c : Thread nD τ) none) Set.univ (k ⟨⟩) Q)
      -∗ wp frame (wpE (defs₀ (F := F)) 𝒱₀ (c : Thread nD τ) none) Set.univ
          (.op (.store goM (Rect.unit (s := S16x256x512) ![j.val, 0, 0] S1x256x512.size inb) w Finset.univ hx hm) k) Q) :=
    wp_store 𝒱₀ (c : Thread nD τ) none Set.univ (defs := defs₀ (F := F)) (m := goM) (Mk := Finset.univ)
      (hx := hx) (hm := hm) (w := w) (k := k) (Q := Q) (S := (oV j).view.set) (f := f)
      (r := Rect.unit (s := S16x256x512) ![j.val, 0, 0] S1x256x512.size inb) (o_access_set j).subset
  iintro H Hk
  iapply h $$ H
  iintro H
  iapply Hk
  iapply (Entails.of_eq e)
  iexact H

/-- The four scratch buffers whole. -/
def held (gq : QBuf F) (go : OBuf F) (ks vs : Vec F S2x128x64x64 .bf16) : sProp 𝕄 :=
  iprop((((c : Thread nD τ).loc cc0_scratch0) ↦{fullShare} gq) ∗ (((c : Thread nD τ).loc cc0_scratch1) ↦{fullShare} go)
    ∗ (((c : Thread nD τ).loc cc0_scratch2) ↦{fullShare} ks) ∗ (((c : Thread nD τ).loc cc0_scratch3) ↦{fullShare} vs))

section Blocks

variable (mask : IVec S128x128 1) (keep : IVec S128x1 1) (x : Vec F S2x128x512 .bf16) (gq : QBuf F) (go : OBuf F)
  (ks vs : Vec F S2x128x64x64 .bf16) (b : Fin 2)

/-- A head, computed. -/
theorem wp_head (j : Fin 16) (q : FVec F S128x256 .bf16) (a : Fin 4) (Kt : FVec F S128x64 .bf16 → sProp 𝕄) :
    iprop(held c gq go ks vs ∗ (held c gq go ks vs -∗ Kt (headV mask keep ks vs b j q a)))
      ⊢ wp frame (wpE (defs₀ (F := F)) 𝒱₀ (c : Thread nD τ) none) Set.univ (head ksM vsM mask keep b j q a) Kt := by
  unfold head held headV
  simp only [Prog.lift, Prog.bind_op, Prog.bind_ret, Prog.pure_eq_ret]
  iintro ⟨⟨Hq, Ho, Hs, Hv⟩, Hk⟩
  iapply (wp_load 𝒱₀ (c : Thread nD τ) none Set.univ (m := ksM) (Finset.subset_univ _)) $$ Hs; iintro Hs
  iapply (wp_load 𝒱₀ (c : Thread nD τ) none Set.univ (m := vsM) (Finset.subset_univ _)) $$ Hv; iintro Hv
  rw [read_ks, read_vs, wp_ret]; imodintro
  iapply Hk
  isplitl [Hq]; · iexact Hq
  isplitl [Ho]; · iexact Ho
  isplitl [Hs]; · iexact Hs
  iexact Hv

/-- A block, added to the running sum. -/
theorem wp_block (j : Fin 16) (acc : FVec F S128x512 .f32) (Kt : FVec F S128x512 .f32 → sProp 𝕄) :
    iprop(held c gq go ks vs ∗ (held c gq go ks vs -∗ Kt (blockV mask keep x gq go ks vs b j acc)))
      ⊢ wp frame (wpE (defs₀ (F := F)) 𝒱₀ (c : Thread nD τ) none) Set.univ
          (block gqM goM ksM vsM mask keep x b j acc) Kt := by
  unfold block blockV
  simp only [Prog.lift, Prog.bind_op, Prog.bind_ret]
  iintro ⟨H, Hk⟩
  ihave H := (Entails.of_eq (held.eq_1 (F := F) c gq go ks vs)) $$ H
  icases H with ⟨Hq, Ho, Hs, Hv⟩
  iapply (wp_load 𝒱₀ (c : Thread nD τ) none Set.univ (m := gqM) (Finset.subset_univ _)) $$ Hq; iintro Hq
  rw [read_gq]
  ihave H := (Entails.of_eq (held.eq_1 (F := F) c gq go ks vs).symm) $$ [Hq Ho Hs Hv]
  · isplitl [Hq]; · iexact Hq
    isplitl [Ho]; · iexact Ho
    isplitl [Hs]; · iexact Hs
    iexact Hv
  rw [wp_bind]
  iapply (wp_head c mask keep gq go ks vs b j (qOf x b (wqAt j gq)) 0)
  isplitl [H]; · iexact H
  iintro H
  rw [wp_bind]
  iapply (wp_head c mask keep gq go ks vs b j (qOf x b (wqAt j gq)) 1)
  isplitl [H]; · iexact H
  iintro H
  rw [wp_bind]
  iapply (wp_head c mask keep gq go ks vs b j (qOf x b (wqAt j gq)) 2)
  isplitl [H]; · iexact H
  iintro H
  rw [wp_bind]
  iapply (wp_head c mask keep gq go ks vs b j (qOf x b (wqAt j gq)) 3)
  isplitl [H]; · iexact H
  iintro H
  ihave H := (Entails.of_eq (held.eq_1 (F := F) c gq go ks vs)) $$ H
  icases H with ⟨Hq, Ho, Hs, Hv⟩
  iapply (wp_load 𝒱₀ (c : Thread nD τ) none Set.univ (m := goM) (Finset.subset_univ _)) $$ Ho; iintro Ho
  rw [read_go, Prog.pure_eq_ret, wp_ret]; imodintro
  iapply Hk
  iapply (Entails.of_eq (held.eq_1 (F := F) c gq go ks vs).symm)
  isplitl [Hq]; · iexact Hq
  isplitl [Ho]; · iexact Ho
  isplitl [Hs]; · iexact Hs
  iexact Hv

/-- The first `n` blocks, by induction on `n`. -/
theorem wp_blocks (n : ℕ) : ∀ Kt : FVec F S128x512 .f32 → sProp 𝕄,
    iprop(held c gq go ks vs ∗ (held c gq go ks vs -∗ Kt (blocksV mask keep x gq go ks vs b n)))
      ⊢ wp frame (wpE (defs₀ (F := F)) 𝒱₀ (c : Thread nD τ) none) Set.univ
          (blocks gqM goM ksM vsM mask keep x b n) Kt := by
  induction n with
  | zero =>
    intro Kt
    show _ ⊢ wp _ _ _ (Prog.ret (k0_pay13 (F := F))) Kt
    rw [wp_ret, blocksV_zero]
    iintro ⟨H, Hk⟩
    imodintro
    iapply Hk
    iexact H
  | succ n ih =>
    intro Kt
    show _ ⊢ wp _ _ _ (blocks gqM goM ksM vsM mask keep x b n >>= block gqM goM ksM vsM mask keep x b (Fin.ofNat 16 n)) Kt
    rw [wp_bind, blocksV_succ]
    iintro ⟨H, Hk⟩
    iapply (ih _)
    isplitl [H]; · iexact H
    iintro H
    iapply (wp_block c mask keep x gq go ks vs b (Fin.ofNat 16 n))
    isplitl [H]; · iexact H
    iexact Hk

/-- The first `n` blocks of a batch and the store of their sum into its half of the result. -/
theorem wp_batchN (n : ℕ) (f : OutBuf F) (hl hx hm) (Kt : PUnit → sProp 𝕄) :
    iprop(held c gq go ks vs ∗ (((c : Thread nD τ).loc cc0_stg5_0) ↦{fullShare} f)
        ∗ ((held c gq go ks vs ∗ (((c : Thread nD τ).loc cc0_stg5_0) ↦{fullShare}
            storeOut f b (blocksV mask keep x gq go ks vs b n))) -∗ Kt ⟨⟩))
      ⊢ wp frame (wpE (defs₀ (F := F)) 𝒱₀ (c : Thread nD τ) none) Set.univ
          (blocks gqM goM ksM vsM mask keep x b n >>= fun acc =>
            .op (.load outM (Rect.unit (s := S2x128x512) ![b.val, 0, 0] S1x128x512.size (inb_batch b)).toLoadRect hl) fun _ =>
              .op (.store outM (Rect.unit (s := S2x128x512) ![b.val, 0, 0] S1x128x512.size (inb_batch b))
                (shapeCast S1x128x512 acc shapeCasts_S128x512_S1x128x512) Finset.univ hx hm) .ret) Kt := by
  rw [wp_bind]
  iintro ⟨H, Hf, Hk⟩
  iapply (wp_blocks c mask keep x gq go ks vs b n)
  isplitl [H]; · iexact H
  iintro H
  iapply (wp_load 𝒱₀ (c : Thread nD τ) none Set.univ (m := outM) (f := f) (Finset.subset_univ _)) $$ Hf; iintro Hf
  iapply (wp_store 𝒱₀ (c : Thread nD τ) none Set.univ (m := outM)
    (r := Rect.unit (s := S2x128x512) ![b.val, 0, 0] S1x128x512.size (inb_batch b)) (Mk := Finset.univ)
    (w := shapeCast S1x128x512 (blocksV mask keep x gq go ks vs b n) shapeCasts_S128x512_S1x128x512) (f := f)
    (Finset.subset_univ _)) $$ Hf; iintro Hf
  rw [wp_ret]; imodintro
  iapply Hk
  isplitl [H]; · iexact H
  iexact Hf

attribute [local irreducible] blocks

/-- A batch: its half of the result stored. -/
theorem wp_batch (f : OutBuf F) (Kt : PUnit.{1} → sProp 𝕄) :
    iprop(held c gq go ks vs ∗ (((c : Thread nD τ).loc cc0_stg5_0) ↦{fullShare} f)
        ∗ ((held c gq go ks vs ∗ (((c : Thread nD τ).loc cc0_stg5_0) ↦{fullShare}
            storeOut f b (blocksV mask keep x gq go ks vs b 16))) -∗ Kt ⟨⟩))
      ⊢ wp frame (wpE (defs₀ (F := F)) 𝒱₀ (c : Thread nD τ) none) Set.univ
          (batch outM gqM goM ksM vsM mask keep x b) Kt := by
  unfold batch
  simp only [Prog.lift, Prog.bind_op, Prog.bind_ret]
  exact wp_batchN c mask keep x gq go ks vs b 16 f _ _ _ Kt

attribute [local irreducible] batch

/-- One batch after the other: the program -/
def batches : P F PUnit := batch outM gqM goM ksM vsM mask keep x 0 >>= fun _ => batch outM gqM goM ksM vsM mask keep x 1

/-- and what it leaves. -/
theorem wp_batches (f : OutBuf F) (Kt : PUnit.{1} → sProp 𝕄) :
    iprop(held c gq go ks vs ∗ (((c : Thread nD τ).loc cc0_stg5_0) ↦{fullShare} f)
        ∗ ((held c gq go ks vs ∗ (((c : Thread nD τ).loc cc0_stg5_0) ↦{fullShare}
            outV mask keep x gq go ks vs)) -∗ Kt ⟨⟩))
      ⊢ wp frame (wpE (defs₀ (F := F)) 𝒱₀ (c : Thread nD τ) none) Set.univ
          (batches mask keep x) Kt := by
  unfold batches
  rw [wp_bind, ← store_both mask keep x gq go ks vs f]
  iintro ⟨H, Hf, Hk⟩
  iapply (wp_batch c mask keep x gq go ks vs 0 f)
  isplitl [H]; · iexact H
  isplitl [Hf]; · iexact Hf
  iintro ⟨H, Hf⟩
  iapply (wp_batch c mask keep x gq go ks vs 1 _)
  isplitl [H]; · iexact H
  isplitl [Hf]; · iexact Hf
  iexact Hk

end Blocks

/-- Both batches, after the rows of `x` are read. -/
theorem wp_computeAt (mask : IVec S128x128 1) (keep : IVec S128x1 1) (x : Vec F S2x128x512 .bf16) (gq : QBuf F) (go : OBuf F)
    (ks vs : Vec F S2x128x64x64 .bf16) (f : OutBuf F) (hl) (Kt : PUnit → sProp 𝕄) :
    iprop(held c gq go ks vs ∗ (((c : Thread nD τ).loc cc0_stg0_0) ↦{fullShare} x) ∗ (((c : Thread nD τ).loc cc0_stg5_0) ↦{fullShare} f)
        ∗ ((held c gq go ks vs ∗ (((c : Thread nD τ).loc cc0_stg0_0) ↦{fullShare} x)
            ∗ (((c : Thread nD τ).loc cc0_stg5_0) ↦{fullShare} outV mask keep x gq go ks vs)) -∗ Kt ⟨⟩))
      ⊢ wp frame (wpE (defs₀ (F := F)) 𝒱₀ (c : Thread nD τ) none) Set.univ
          (.op (.load xM (Rect.unit (s := S2x128x512) ![0, 0, 0] S2x128x512.size inb_S2x128x512_S2x128x512_0_0_0).toLoadRect hl) fun x =>
            batches mask keep x) Kt := by
  iintro ⟨H, Hx, Hf, Hk⟩
  iapply (wp_load 𝒱₀ (c : Thread nD τ) none Set.univ (m := xM) (f := x) (Finset.subset_univ _)) $$ Hx; iintro Hx
  rw [show (xM : Memref sig .tc .vmem S2x128x512 .bf16).view.readAt (Elt F)
      (Rect.unit (s := S2x128x512) ![0, 0, 0] S2x128x512.size inb_S2x128x512_S2x128x512_0_0_0).toLoadRect x = x
    from Memref.readAt_unit_zero (Elt F) cc0_stg0_0 hz3 _ x]
  iapply (@wp_batches F _ c mask keep x gq go ks vs f Kt)
  isplitl [H]; · iexact H
  isplitl [Hf]; · iexact Hf
  iintro ⟨H, Hf⟩
  iapply Hk
  isplitl [H]; · iexact H
  isplitl [Hx]; · iexact Hx
  iexact Hf

/-- The program's own text for it. -/
theorem compute_eq : compute (F := F) xM outM gqM goM ksM vsM c
    = .op (.load xM (Rect.unit (s := S2x128x512) ![0, 0, 0] S2x128x512.size inb_S2x128x512_S2x128x512_0_0_0).toLoadRect
        (View.loadsAt_vmem h_S2x128x512)) fun x => batches (maskOf c) (keepOf F c) x := by
  unfold compute batches
  simp only [Prog.lift, Prog.bind_op, Prog.bind_ret]

/-- Both batches. -/
theorem wp_compute (x : Vec F S2x128x512 .bf16) (gq : QBuf F) (go : OBuf F) (ks vs : Vec F S2x128x64x64 .bf16)
    (f : OutBuf F) (Kt : PUnit.{1} → sProp 𝕄) :
    iprop(held c gq go ks vs ∗ (((c : Thread nD τ).loc cc0_stg0_0) ↦{fullShare} x) ∗ (((c : Thread nD τ).loc cc0_stg5_0) ↦{fullShare} f)
        ∗ ((held c gq go ks vs ∗ (((c : Thread nD τ).loc cc0_stg0_0) ↦{fullShare} x)
            ∗ (((c : Thread nD τ).loc cc0_stg5_0) ↦{fullShare} outV (maskOf c) (keepOf F c) x gq go ks vs)) -∗ Kt ⟨⟩))
      ⊢ wp frame (wpE (defs₀ (F := F)) 𝒱₀ (c : Thread nD τ) none) Set.univ
          (compute xM outM gqM goM ksM vsM c) Kt := by
  rw [compute_eq]
  exact @wp_computeAt F _ c (maskOf c) (keepOf F c) x gq go ks vs f _ Kt

/-- The copies of the keys and the values. -/
theorem wp_copyKV (k v k' v' : Vec F S2x128x64x64 .bf16) (Kt : PUnit → sProp 𝕄) :
    iprop((((c : Thread nD τ).loc cc0_stg2_0) ↦{fullShare} k) ∗ (((c : Thread nD τ).loc cc0_stg3_0) ↦{fullShare} v)
        ∗ (((c : Thread nD τ).loc cc0_scratch2) ↦{fullShare} k') ∗ (((c : Thread nD τ).loc cc0_scratch3) ↦{fullShare} v')
        ∗ (((((c : Thread nD τ).loc cc0_stg2_0) ↦{fullShare} k) ∗ (((c : Thread nD τ).loc cc0_stg3_0) ↦{fullShare} v)
          ∗ (((c : Thread nD τ).loc cc0_scratch2) ↦{fullShare} k0_pay4 k)
          ∗ (((c : Thread nD τ).loc cc0_scratch3) ↦{fullShare} k0_pay5 v)) -∗ Kt ⟨⟩))
      ⊢ wp frame (wpE (defs₀ (F := F)) 𝒱₀ (c : Thread nD τ) none) Set.univ
          (copyKV kM vM ksM (Memref.isWhole_whole _) vsM (Memref.isWhole_whole _)) Kt := by
  unfold copyKV
  simp only [Prog.lift, Prog.bind_op, Prog.bind_ret]
  iintro ⟨Hk, Hv, Hk', Hv', HK⟩
  iapply (wp_load 𝒱₀ (c : Thread nD τ) none Set.univ (m := kM) (Finset.subset_univ _)) $$ Hk; iintro Hk
  rw [show (kM : Memref sig .tc .vmem S2x128x64x64 .bf16).view.readAt (Elt F)
      (Rect.unit (s := S2x128x64x64) ![0, 0, 0, 0] S2x128x64x64.size inb_S2x128x64x64_S2x128x64x64_0_0_0_0).toLoadRect k = k
    from Memref.readAt_unit_zero (Elt F) cc0_stg2_0 hz4 _ k]
  iapply (wp_load 𝒱₀ (c : Thread nD τ) none Set.univ (m := ksM) (Finset.subset_univ _)) $$ Hk'; iintro Hk'
  iapply (wp_store 𝒱₀ (c : Thread nD τ) none Set.univ (m := ksM)
    (r := Rect.unit (s := S2x128x64x64) ![0, 0, 0, 0] S2x128x64x64.size inb_S2x128x64x64_S2x128x64x64_0_0_0_0) (Mk := Finset.univ)
    (Finset.subset_univ _)) $$ Hk'; iintro Hk'
  rw [show ((ksM : Memref sig .tc .vmem S2x128x64x64 .bf16).access
      (Rect.unit (s := S2x128x64x64) ![0, 0, 0, 0] S2x128x64x64.size inb_S2x128x64x64_S2x128x64x64_0_0_0_0)
        : View sig .tc _ _ _).write (Elt F) k' (k0_pay4 k) Finset.univ = k0_pay4 k
    from Memref.write_access_unit_zero_univ (Elt F) cc0_scratch2 hz4 _ k' _]
  iapply (wp_load 𝒱₀ (c : Thread nD τ) none Set.univ (m := vM) (Finset.subset_univ _)) $$ Hv; iintro Hv
  rw [show (vM : Memref sig .tc .vmem S2x128x64x64 .bf16).view.readAt (Elt F)
      (Rect.unit (s := S2x128x64x64) ![0, 0, 0, 0] S2x128x64x64.size inb_S2x128x64x64_S2x128x64x64_0_0_0_0).toLoadRect v = v
    from Memref.readAt_unit_zero (Elt F) cc0_stg3_0 hz4 _ v]
  iapply (wp_load 𝒱₀ (c : Thread nD τ) none Set.univ (m := vsM) (Finset.subset_univ _)) $$ Hv'; iintro Hv'
  iapply (wp_store 𝒱₀ (c : Thread nD τ) none Set.univ (m := vsM)
    (r := Rect.unit (s := S2x128x64x64) ![0, 0, 0, 0] S2x128x64x64.size inb_S2x128x64x64_S2x128x64x64_0_0_0_0) (Mk := Finset.univ)
    (Finset.subset_univ _)) $$ Hv'; iintro Hv'
  rw [show ((vsM : Memref sig .tc .vmem S2x128x64x64 .bf16).access
      (Rect.unit (s := S2x128x64x64) ![0, 0, 0, 0] S2x128x64x64.size inb_S2x128x64x64_S2x128x64x64_0_0_0_0)
        : View sig .tc _ _ _).write (Elt F) v' (k0_pay5 v) Finset.univ = k0_pay5 v
    from Memref.write_access_unit_zero_univ (Elt F) cc0_scratch3 hz4 _ v' _]
  rw [wp_ret]; imodintro
  iapply HK
  isplitl [Hk]; · iexact Hk
  isplitl [Hv]; · iexact Hv
  isplitl [Hk']; · iexact Hk'
  iexact Hv'

/-- The device's own blocks into its own slots. -/
theorem wp_ownSlots (wq : Vec F S512x256 .bf16) (wo : Vec F S256x512 .bf16) (fq GQ : QBuf F) (fo GO : OBuf F)
    (hq : wqAt c GQ = k0_pay2 wq) (ho : woAt c GO = k0_pay3 wo) (Kt : PUnit → sProp 𝕄) :
    iprop((((c : Thread nD τ).loc cc0_stg1_0) ↦{fullShare} wq) ∗ (((c : Thread nD τ).loc cc0_stg4_0) ↦{fullShare} wo)
        ∗ qSlot c c fq ∗ oSlot c c fo
        ∗ (((((c : Thread nD τ).loc cc0_stg1_0) ↦{fullShare} wq) ∗ (((c : Thread nD τ).loc cc0_stg4_0) ↦{fullShare} wo)
          ∗ qSlot c c GQ ∗ oSlot c c GO) -∗ Kt ⟨⟩))
      ⊢ wp frame (wpE (defs₀ (F := F)) 𝒱₀ (c : Thread nD τ) none) Set.univ
          (ownSlots wqM woM gqM (Memref.isWhole_whole _) goM (Memref.isWhole_whole _) c) Kt := by
  unfold ownSlots
  simp only [Prog.lift, Prog.bind_op, Prog.bind_ret]
  iintro ⟨Hq, Ho, Sq, So, HK⟩
  iapply (wp_load 𝒱₀ (c : Thread nD τ) none Set.univ (m := wqM) (Finset.subset_univ _)) $$ Hq; iintro Hq
  rw [show (wqM : Memref sig .tc .vmem S512x256 .bf16).view.readAt (Elt F)
      (Rect.unit (s := S512x256) ![0, 0] S512x256.size inb_S512x256_S512x256_0_0).toLoadRect wq = wq
    from Memref.readAt_unit_zero (Elt F) cc0_stg1_0 hz2 _ wq]
  iapply (wp_peek_q c c fq _ (k0_off1_eq c) _ _) $$ Sq
  iintro %u Sq
  iapply (wp_fill_q c c fq GQ _ (k0_off1_eq c) _ _ hq _ _) $$ Sq
  iintro Sq
  iapply (wp_load 𝒱₀ (c : Thread nD τ) none Set.univ (m := woM) (Finset.subset_univ _)) $$ Ho; iintro Ho
  rw [show (woM : Memref sig .tc .vmem S256x512 .bf16).view.readAt (Elt F)
      (Rect.unit (s := S256x512) ![0, 0] S256x512.size inb_S256x512_S256x512_0_0).toLoadRect wo = wo
    from Memref.readAt_unit_zero (Elt F) cc0_stg4_0 hz2 _ wo]
  iapply (wp_peek_o c c fo _ (k0_off2_eq c) _ _) $$ So
  iintro %u So
  iapply (wp_fill_o c c fo GO _ (k0_off2_eq c) _ _ ho _ _) $$ So
  iintro So
  rw [wp_ret]; imodintro
  iapply HK
  isplitl [Hq]; · iexact Hq
  isplitl [Ho]; · iexact Ho
  isplitl [Sq]; · iexact Sq
  iexact So

end Rules

end Cert.KernelIdeal.Own

end
-- ==== Proof.Body.lean ====
/- The whole body on one device, from what the launch deals it: the handshake, the device's own slots, the fifteen hops,
   the copies of the keys and the values, and the two batches. -/
module

public import proofs.«01_k».proof.Proof.Hop
public import proofs.«01_k».proof.Proof.Compute

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two gathered buffers, split for the exchange and joined after it -/

/-- A whole buffer of the query weight: the device's own slot, and the slots its left neighbour fills. -/
theorem q_split (c : Dev nD) (f : QBuf F) :
    (((c : Thread nD τ).loc cc0_scratch0) ↦{fullShare} f : sProp 𝕄) ⊢ iprop(qSlot c c f ∗ barQ (F := F) (prv c)) := by
  obtain ⟨hi, he⟩ := q_others c
  rw [q_slots, bigSep_univ_at _ (c : Fin 16), he, bigSep_map]
  refine sep_mono_right ?_
  unfold barQ
  rw [nxt_prv]
  have hx (h : Fin 15) : qSlot c (qix (prv c) h.val) f ⊢ (iprop(∃ f, qSlot (F := F) c (qix (prv c) h.val) f) : sProp 𝕄) := by
    iintro H
    iexists f
    iexact H
  exact bigSep_mono fun h _ => hx h

/-- A whole buffer of the output weight: the device's own slot, and the slots its right neighbour fills. -/
theorem o_split (c : Dev nD) (f : OBuf F) :
    (((c : Thread nD τ).loc cc0_scratch1) ↦{fullShare} f : sProp 𝕄) ⊢ iprop(oSlot c c f ∗ barO (F := F) (nxt c)) := by
  obtain ⟨hi, he⟩ := o_others c
  rw [o_slots, bigSep_univ_at _ (c : Fin 16), he, bigSep_map]
  refine sep_mono_right ?_
  unfold barO
  rw [prv_nxt]
  have hx (h : Fin 15) : oSlot c (oix (nxt c) h.val) f ⊢ (iprop(∃ f, oSlot (F := F) c (oix (nxt c) h.val) f) : sProp 𝕄) := by
    iintro H
    iexists f
    iexact H
  exact bigSep_mono fun h _ => hx h

/-- The slots sent on at the fifteen hops and the last one received are the whole buffer. -/
theorem q_join (c : Dev nD) (f : QBuf F) :
    iprop(qSlot c (qix c 15) f ∗ bigSep Finset.univ fun h : Fin 15 => qSlot c (qix c h.val) f)
      ⊢ (((c : Thread nD τ).loc cc0_scratch0) ↦{fullShare} f : sProp 𝕄) := by
  obtain ⟨hi, he⟩ := q_sent c
  rw [q_slots, bigSep_univ_at _ (qix c 15), he, bigSep_map]
  exact BI.Entails.refl _

theorem o_join (c : Dev nD) (f : OBuf F) :
    iprop(oSlot c (oix c 15) f ∗ bigSep Finset.univ fun h : Fin 15 => oSlot c (oix c h.val) f)
      ⊢ (((c : Thread nD τ).loc cc0_scratch1) ↦{fullShare} f : sProp 𝕄) := by
  obtain ⟨hi, he⟩ := o_sent c
  rw [o_slots, bigSep_univ_at _ (oix c 15), he, bigSep_map]
  exact BI.Entails.refl _

section Body

variable (GQ : QBuf F) (GO : OBuf F) (K : Dev nD × CK → ℕ)

set_option maxHeartbeats 1000000 in
/-- The handshake: the device hands out its slots and is handed its neighbours'. -/
theorem wp_handshake (c : Dev nD) (Kt : PUnit → sProp 𝕄) :
    iprop(recs GQ GO K ∗ levAts L lv ∗ barQ (F := F) (prv c) ∗ barO (F := F) (nxt c)
        ∗ (dutyTok EX (barCell (prv c)) 0 true ∗ dutyTok EX (barCell (nxt c)) 0 false)
        ∗ atPos EX (barCell c) 0 ∅ 0 ∗ cred (tallyAt (barCell c) () 2)
        ∗ (∃ W, owes (c : Thread nD τ) (O₀ c) W)
        ∗ ((barQ (F := F) c ∗ barO (F := F) c ∗ semVal (barCell c) 0 ∗ (∃ W, owes (c : Thread nD τ) (owed c 0) W)) -∗ Kt ⟨⟩))
      ⊢ wp frame (wpE (defs₀ (F := F)) 𝒱₀ (c : Thread nD τ) none) Set.univ (handshake (F := F) c) Kt := by
  unfold handshake
  simp only [semSignalWord, semWaitWord, Prog.lift, Prog.bind_op, Prog.bind_ret, Prog.pure_eq_ret, dev1_eq, dev2_eq]
  iintro ⟨#HR, #Hlev, HQ, HO', ⟨Htp, Htn⟩, Hat, Hcred, ⟨%W, HO⟩, Hk⟩
  ihave #Hp := recs_bar GQ GO K (prv c) $$ HR
  ihave #Hn := recs_bar GQ GO K (nxt c) $$ HR
  ihave #Hc := recs_bar GQ GO K c $$ HR
  icases Hp with ⟨Hpi, Hpr⟩
  icases Hn with ⟨Hni, Hnr⟩
  icases Hc with ⟨Hci, Hcr⟩
  iapply (Rounds.wp_signal 𝒱₀ EX (sched GQ GO) (c : Thread nD τ) none (dst := (prv c : Thread nD τ)) (κ := K (prv c, none))
      (d := true) (by rw [duties_bar]; exact Finset.mem_univ _) ((amount_bar GQ GO (prv c) true).trans (by decide)) () (O₁ c) rfl)
    $$ [HO Htp HQ]
  · isplitr; · iexact Hpi
    isplitl [HO]; · iexact HO
    isplitl [Htp]; · iexact Htp
    isplitl [HQ]; · rw [payload_bar_true]; iexact HQ
    iexact Hpr
  iintro HO
  unfold O₁
  iapply (Rounds.wp_signal 𝒱₀ EX (sched GQ GO) (c : Thread nD τ) none (dst := (nxt c : Thread nD τ)) (κ := K (nxt c, none))
      (d := false) (by rw [duties_bar]; exact Finset.mem_univ _) ((amount_bar GQ GO (nxt c) false).trans (by decide)) () (owed c 0) rfl)
    $$ [HO Htn HO']
  · isplitr; · iexact Hni
    isplitl [HO]; · iexact HO
    isplitl [Htn]; · iexact Htn
    isplitl [HO']; · rw [payload_bar_false]; iexact HO'
    iexact Hnr
  iintro HO
  iapply (Rounds.wp_wait_rest_token 𝒱₀ EX (sched GQ GO) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [Hcred HO Hat]
  · isplitr; · iexact Hci
    isplitl [Hcred]; · iexact Hcred
    isplitl [HO]; · iexact HO
    isplitr; · iapply (mayWait_bar c); iexact Hlev
    iexact Hat
  iintro ⟨HO, HatB, -, Hpay⟩
  ihave Hp := (Entails.of_eq (rest_bar GQ GO c)) $$ Hpay
  icases Hp with ⟨HbO, HbQ⟩
  imod (Rounds.cell_close EX (sched GQ GO) (Set.mem_univ (K (c, none))) (fun h => h) (R := 0 + 1)
    (duties_later GQ GO (barCell c))) $$ [HatB] with HzB
  · isplitr; · iexact Hci
    iexact HatB
  rw [wp_ret]; imodintro
  iapply Hk
  isplitl [HbQ]; · iexact HbQ
  isplitl [HbO]; · iexact HbO
  isplitl [HzB]; · iexact HzB
  iexists _; iexact HO

/-- The neighbours' slots and the launch's share of each hop are what the hops need. -/
theorem todo_intro (c : Dev nD) :
    iprop(barQ (F := F) c ∗ barO (F := F) c ∗ bigSep Finset.univ fun h : Fin 15 => hopRes (F := F) c h)
      ⊢ bigSep Finset.univ (prog GQ GO c 0) := by
  rw [bigSep_congr (s := Finset.univ) fun (h : Fin 15) _ => show prog GQ GO c 0 h = todo c h from if_neg (Nat.not_lt_zero _)]
  unfold todo
  rw [bigSep_sep', bigSep_sep']
  exact BI.Entails.refl _

/-- What the hops leave: both buffers gathered, and all cells closed. -/
theorem done_elim (c : Dev nD) :
    iprop(bigSep Finset.univ (prog GQ GO c 15) ∗ pass GQ GO c 15)
      ⊢ iprop((((c : Thread nD τ).loc cc0_scratch0) ↦{fullShare} GQ) ∗ (((c : Thread nD τ).loc cc0_scratch1) ↦{fullShare} GO)
        ∗ (bigSep Finset.univ fun h : Fin 15 => zeros (F := F) c h) ∗ ∃ W, owes (c : Thread nD τ) 0 W) := by
  rw [bigSep_congr (s := Finset.univ) fun (h : Fin 15) _ => show prog GQ GO c 15 h = done GQ GO c h from if_pos h.isLt]
  unfold done pass
  rw [bigSep_sep', bigSep_sep', owed_last]
  iintro ⟨⟨Hq, Ho, Hz⟩, Hq', Ho', HO⟩
  isplitl [Hq Hq']
  · iapply (q_join c GQ); isplitl [Hq'] <;> iassumption
  isplitl [Ho Ho']
  · iapply (o_join c GO); isplitl [Ho'] <;> iassumption
  isplitl [Hz] <;> iassumption

/-- What device `c`'s body starts from, besides its buffers. -/
def start (c : Dev nD) : sProp 𝕄 :=
  iprop((recs GQ GO K ∗ (dutyTok EX (barCell (prv c)) 0 true ∗ dutyTok EX (barCell (nxt c)) 0 false) ∗ atPos EX (barCell c) 0 ∅ 0)
    ∗ cred (tallyAt (barCell c) () 2) ∗ (bigSep Finset.univ fun h : Fin 15 => hopRes (F := F) c h) ∗ levAts L lv)

/-- The contents of a device's four scratch buffers do not matter before it starts. -/
def scratch (c : Dev nD) : sProp 𝕄 :=
  iprop((∃ f : QBuf F, ((c : Thread nD τ).loc cc0_scratch0) ↦{fullShare} f) ∗ (∃ f : OBuf F, ((c : Thread nD τ).loc cc0_scratch1) ↦{fullShare} f)
    ∗ (∃ f : Vec F S2x128x64x64 .bf16, ((c : Thread nD τ).loc cc0_scratch2) ↦{fullShare} f)
    ∗ (∃ f : Vec F S2x128x64x64 .bf16, ((c : Thread nD τ).loc cc0_scratch3) ↦{fullShare} f))

/-- The five staged inputs. -/
def inputs (c : Dev nD) (x : Vec F S2x128x512 .bf16) (wq : Vec F S512x256 .bf16) (k v : Vec F S2x128x64x64 .bf16)
    (wo : Vec F S256x512 .bf16) : sProp 𝕄 :=
  iprop((((c : Thread nD τ).loc cc0_stg0_0) ↦{fullShare} x) ∗ (((c : Thread nD τ).loc cc0_stg1_0) ↦{fullShare} wq)
    ∗ (((c : Thread nD τ).loc cc0_stg2_0) ↦{fullShare} k) ∗ (((c : Thread nD τ).loc cc0_stg3_0) ↦{fullShare} v)
    ∗ (((c : Thread nD τ).loc cc0_stg4_0) ↦{fullShare} wo))

/-- What the body leaves behind: its scratch buffers, and all its semaphores at zero. -/
def final (c : Dev nD) : sProp 𝕄 :=
  iprop(scratch (F := F) c ∗ (bigSep Finset.univ fun h : Fin 15 => zeros (F := F) c h) ∗ semVal (barCell c) 0)

set_option maxHeartbeats 1000000 in
/-- The body on device `c`: from its inputs and what the launch deals it, it computes its rows of the result from the
gathered weights. -/
theorem wp_body (c : Dev nD) (x : Vec F S2x128x512 .bf16) (wq : Vec F S512x256 .bf16) (k v : Vec F S2x128x64x64 .bf16)
    (wo : Vec F S256x512 .bf16) (f : OutBuf F) (hq : wqAt c GQ = k0_pay2 wq) (ho : woAt c GO = k0_pay3 wo) (Kt : PUnit.{1} → sProp 𝕄) :
    iprop(start GQ GO K c ∗ scratch (F := F) c ∗ inputs c x wq k v wo ∗ (((c : Thread nD τ).loc cc0_stg5_0) ↦{fullShare} f)
        ∗ (∃ W, owes (c : Thread nD τ) (O₀ c) W)
        ∗ ((final (F := F) c ∗ inputs c x wq k v wo
            ∗ (((c : Thread nD τ).loc cc0_stg5_0) ↦{fullShare} outV (maskOf c) (keepOf F c) x GQ GO (k0_pay4 k) (k0_pay5 v))
            ∗ (∃ W, owes (c : Thread nD τ) 0 W)) -∗ Kt ⟨⟩))
      ⊢ wp frame (wpE (defs₀ (F := F)) 𝒱₀ (c : Thread nD τ) none) Set.univ
          (body xM wqM kM vM woM outM gqM (Memref.isWhole_whole _) goM (Memref.isWhole_whole _) ksM (Memref.isWhole_whole _)
            vsM (Memref.isWhole_whole _) cc0_scratch4 cc0_scratch5 cc0_scratch6 cc0_scratch7) Kt := by
  unfold body
  simp only [Prog.lift, Prog.bind_op, Prog.bind_ret, wp_deviceId]
  unfold start scratch inputs
  iintro ⟨⟨⟨#HR, Htoks, Hat⟩, Hcred, Hres, #Hlev⟩, ⟨⟨%fq, Hgq⟩, ⟨%fo, Hgo⟩, ⟨%fk, Hks⟩, ⟨%fv, Hvs⟩⟩,
    ⟨Hx, Hwq, Hkk, Hvv, Hwo⟩, Hf, HO, Hk⟩
  ihave Hgq := (q_split c fq) $$ Hgq
  ihave Hgo := (o_split c fo) $$ Hgo
  icases Hgq with ⟨Hsq, HbQ⟩
  icases Hgo with ⟨Hso, HbO⟩
  rw [wp_bind]
  iapply (wp_handshake GQ GO K c _)
  isplitr; · iexact HR
  isplitr; · iexact Hlev
  isplitl [HbQ]; · iexact HbQ
  isplitl [HbO]; · iexact HbO
  isplitl [Htoks]; · iexact Htoks
  isplitl [Hat]; · iexact Hat
  isplitl [Hcred]; · iexact Hcred
  isplitl [HO]; · iexact HO
  iintro ⟨HbQ, HbO, HzB, HO⟩
  rw [wp_bind]
  iapply (@wp_ownSlots F _ c wq wo fq GQ fo GO hq ho _)
  isplitl [Hwq]; · iexact Hwq
  isplitl [Hwo]; · iexact Hwo
  isplitl [Hsq]; · iexact Hsq
  isplitl [Hso]; · iexact Hso
  iintro ⟨Hwq, Hwo, Hsq, Hso⟩
  rw [wp_bind]
  iapply (wp_hops GQ GO K c 15 (Nat.le_refl _) _)
  isplitr; · iexact HR
  isplitr; · iexact Hlev
  isplitl [HbQ HbO Hres]
  · iapply (todo_intro GQ GO c)
    isplitl [HbQ]; · iexact HbQ
    isplitl [HbO] <;> iassumption
  isplitl [Hsq Hso HO]
  · unfold pass
    rw [qix_zero, oix_zero]
    isplitl [Hsq]; · iexact Hsq
    isplitl [Hso] <;> iassumption
  iintro Hd
  ihave Hd := (done_elim GQ GO c) $$ Hd
  icases Hd with ⟨Hgq, Hgo, Hz, HO⟩
  rw [wp_bind]
  iapply (@wp_copyKV F _ c k v fk fv _)
  isplitl [Hkk]; · iexact Hkk
  isplitl [Hvv]; · iexact Hvv
  isplitl [Hks]; · iexact Hks
  isplitl [Hvs]; · iexact Hvs
  iintro ⟨Hkk, Hvv, Hks, Hvs⟩
  iapply (@wp_compute F _ c x GQ GO (k0_pay4 k) (k0_pay5 v) f Kt)
  unfold held
  isplitl [Hgq Hgo Hks Hvs]
  · isplitl [Hgq]; · iexact Hgq
    isplitl [Hgo]; · iexact Hgo
    isplitl [Hks] <;> iassumption
  isplitl [Hx]; · iexact Hx
  isplitl [Hf]; · iexact Hf
  iintro ⟨⟨Hgq, Hgo, Hks, Hvs⟩, Hx, Hf⟩
  iapply Hk
  unfold final scratch
  isplitl [Hgq Hgo Hks Hvs Hz HzB]
  · isplitl [Hgq Hgo Hks Hvs]
    · isplitl [Hgq]; · iexists _; iexact Hgq
      isplitl [Hgo]; · iexists _; iexact Hgo
      isplitl [Hks]; · iexists _; iexact Hks
      iexists _; iexact Hvs
    isplitl [Hz] <;> iassumption
  isplitl [Hx Hwq Hkk Hvv Hwo]
  · isplitl [Hx]; · iexact Hx
    isplitl [Hwq]; · iexact Hwq
    isplitl [Hkk]; · iexact Hkk
    isplitl [Hvv] <;> iassumption
  isplitl [Hf] <;> iassumption

end Body

end Cert.KernelIdeal.Own

end
-- ==== Proof.Run.lean ====
/- The launch: what the launch's ghost state and semaphores deal each device, how the tokens go around the ring, and the
   run of the whole program on all sixteen devices, over any float values. -/
module

public import proofs.«01_k».proof.Proof.Body
public import Idealize.ShloMosaic.Lib.Pipeline.CollectiveSegs

@[expose] public section

set_option maxRecDepth 16384

noncomputable section

namespace Cert.KernelIdeal.Own

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The staged inputs of device `c`: its blocks of `x`, of the query weight, of the keys, the values and the output
weight, as launched. -/
def xOf (c : Dev nD) : Vec F S2x128x512 .bf16 := (win0_0.blk (0 : Fin 1)).view.read (Elt F) (m ((c : Thread nD τ).loc main_arg0))
def wqOf (c : Dev nD) : Vec F S512x256 .bf16 := (win0_1.blk (0 : Fin 1)).view.read (Elt F) (m ((c : Thread nD τ).loc main_arg1))
def kOf (c : Dev nD) : Vec F S2x128x64x64 .bf16 := (win0_2.blk (0 : Fin 1)).view.read (Elt F) (m ((c : Thread nD τ).loc main_arg2))
def vOf (c : Dev nD) : Vec F S2x128x64x64 .bf16 := (win0_3.blk (0 : Fin 1)).view.read (Elt F) (m ((c : Thread nD τ).loc main_arg3))
def woOf (c : Dev nD) : Vec F S256x512 .bf16 := (win0_4.blk (0 : Fin 1)).view.read (Elt F) (m ((c : Thread nD τ).loc main_arg4))

/-- The gathered weights: slot `j` holds device `j`'s block. -/
def gqOf : QBuf F := fun (i : S16x512x256.Idx) => k0_pay2 (wqOf m (i 0)) (ix3 0 (i 1) (i 2))
def goOf : OBuf F := fun (i : S16x256x512.Idx) => k0_pay3 (woOf m (i 0)) (ix3 0 (i 1) (i 2))

theorem wqAt_gqOf (c : Dev nD) : wqAt c (gqOf m) = k0_pay2 (wqOf m c) := by
  funext i
  have h : i = ix3 (0 : Fin 1) (i 1) (i 2) := by
    rw [Fin.ext (show ((0 : Fin 1)).val = (i 0).val by have h0 : (i 0).val < 1 := (i 0).isLt; show 0 = (i 0).val; omega)]
    exact eq_ix3 i
  exact (congrArg (k0_pay2 (wqOf m c)) h).symm
theorem woAt_goOf (c : Dev nD) : woAt c (goOf m) = k0_pay3 (woOf m c) := by
  funext i
  have h : i = ix3 (0 : Fin 1) (i 1) (i 2) := by
    rw [Fin.ext (show ((0 : Fin 1)).val = (i 0).val by have h0 : (i 0).val < 1 := (i 0).isLt; show 0 = (i 0).val; omega)]
    exact eq_ix3 i
  exact (congrArg (k0_pay3 (woOf m c)) h).symm

/-- The kernel's result on device `c`. -/
def outOf (c : Dev nD) : OutBuf F :=
  outV (maskOf c) (keepOf F c) (xOf m c) (gqOf m) (goOf m) (k0_pay4 (kOf m c)) (k0_pay5 (vOf m c))

/-! ## The pipeline's proof data -/

def Φ₀ (c : Dev nD) : sProp 𝕄 := iprop((∃ K, start (gqOf m) (goOf m) K c) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => wqOf m c
    | ⟨2, _⟩ => kOf m c
    | ⟨3, _⟩ => vOf m c
    | ⟨4, _⟩ => woOf m c
    | ⟨5, _⟩ => outOf m c
  Φ t := match t with
    | ⟨0, _⟩ => Φ₀ m c
    | ⟨_ + 1, _⟩ => final (F := F) c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

/-- A whole staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) :
    (((c : Thread nD τ).loc b) ↦{fullShare} X : sProp 𝕄) ⊢ stg c b X := by
  iintro H
  iexists X
  isplitr; · (ipureintro; rfl)
  iexact H

theorem stg_elim (c : Dev nD) (b : Ref sig .tc) (X Y : b.ty.Contents (Elt F)) (h : X = Y) :
    (stg c b X : sProp 𝕄) ⊢ (((c : Thread nD τ).loc b) ↦{fullShare} Y) := by
  iintro ⟨%f, %hf, H⟩
  rw [← h, ← hf]
  iexact H

section BodyOb

abbrev bef (c : Dev nD) (w : Fin 6) (d) := (dats m ρ 0 c).before w t0_0 d

theorem bef_0 (c : Dev nD) (d) : bef m ρ c 0 d = xOf m c := by unfold bef Dat.before; rw [if_pos (fetch0_0 t0_0)]; rfl
theorem bef_1 (c : Dev nD) (d) : bef m ρ c 1 d = wqOf m c := by unfold bef Dat.before; rw [if_pos (fetch0_1 t0_0)]; rfl
theorem bef_2 (c : Dev nD) (d) : bef m ρ c 2 d = kOf m c := by unfold bef Dat.before; rw [if_pos (fetch0_2 t0_0)]; rfl
theorem bef_3 (c : Dev nD) (d) : bef m ρ c 3 d = vOf m c := by unfold bef Dat.before; rw [if_pos (fetch0_3 t0_0)]; rfl
theorem bef_4 (c : Dev nD) (d) : bef m ρ c 4 d = woOf m c := by unfold bef Dat.before; rw [if_pos (fetch0_4 t0_0)]; rfl

def bodyPre (c : Dev nD) : sProp 𝕄 :=
  iprop(Φ₀ m c ∗ (dats m ρ 0 c).owesAt () t0_0.castSucc
    ∗ (∃ d, stg c cc0_stg0_0 (bef m ρ c 0 d)) ∗ (∃ d, stg c cc0_stg1_0 (bef m ρ c 1 d))
    ∗ (∃ d, stg c cc0_stg2_0 (bef m ρ c 2 d)) ∗ (∃ d, stg c cc0_stg3_0 (bef m ρ c 3 d))
    ∗ (∃ d, stg c cc0_stg4_0 (bef m ρ c 4 d)) ∗ (∃ d, stg c cc0_stg5_0 (bef m ρ c 5 d)))

def bodyPost (c : Dev nD) : sProp 𝕄 :=
  iprop(final (F := F) c ∗ (dats m ρ 0 c).owesAt () t0_0.succ
    ∗ stg c cc0_stg0_0 (xOf m c) ∗ stg c cc0_stg1_0 (wqOf m c) ∗ stg c cc0_stg2_0 (kOf m c) ∗ stg c cc0_stg3_0 (vOf m c)
    ∗ stg c cc0_stg4_0 (woOf m c) ∗ stg c cc0_stg5_0 (outOf m c))

set_option maxHeartbeats 1000000 in
/-- The body from the pipeline's precondition to its postcondition. -/
theorem sound_body (c : Dev nD) :
    bodyPre m ρ c ⊢ wp frame (wpE (defs₀ (F := F)) 𝒱₀ (c : Thread nD τ) none) Set.univ
      (body xM wqM kM vM woM outM gqM (Memref.isWhole_whole _) goM (Memref.isWhole_whole _) ksM (Memref.isWhole_whole _)
            vsM (Memref.isWhole_whole _) cc0_scratch4 cc0_scratch5 cc0_scratch6 cc0_scratch7) fun _ => bodyPost m ρ c := by
  unfold bodyPre Φ₀ Dat.owesAt Pipeline.owesWithin
  rw [show (dats m ρ 0 c).owed t0_0.castSucc = O₀ c from rfl]
  iintro ⟨⟨⟨%K, Hs⟩, Hscr⟩, ⟨%W, %hW, HO⟩, ⟨%d0, H0⟩, ⟨%d1, H1⟩, ⟨%d2, H2⟩, ⟨%d3, H3⟩, ⟨%d4, H4⟩, ⟨%d5, ⟨%f, %hf, H5⟩⟩⟩
  ihave H0 := (stg_elim c cc0_stg0_0 _ _ (bef_0 m ρ c d0)) $$ H0
  ihave H1 := (stg_elim c cc0_stg1_0 _ _ (bef_1 m ρ c d1)) $$ H1
  ihave H2 := (stg_elim c cc0_stg2_0 _ _ (bef_2 m ρ c d2)) $$ H2
  ihave H3 := (stg_elim c cc0_stg3_0 _ _ (bef_3 m ρ c d3)) $$ H3
  ihave H4 := (stg_elim c cc0_stg4_0 _ _ (bef_4 m ρ c d4)) $$ H4
  iapply (@wp_body F _ (gqOf m) (goOf m) K c (xOf m c) (wqOf m c) (kOf m c) (vOf m c) (woOf m c) f (wqAt_gqOf m c) (woAt_goOf m c) _)
  isplitl [Hs]; · iexact Hs
  isplitl [Hscr]; · iexact Hscr
  isplitl [H0 H1 H2 H3 H4]
  · unfold inputs
    isplitl [H0]; · iexact H0
    isplitl [H1]; · iexact H1
    isplitl [H2]; · iexact H2
    isplitl [H3] <;> iassumption
  isplitl [H5]; · iexact H5
  isplitl [HO]; · iexists W; iexact HO
  unfold inputs
  iintro ⟨Hfin, ⟨H0, H1, H2, H3, H4⟩, H5, ⟨%W', HO⟩⟩
  unfold bodyPost Dat.owesAt Pipeline.owesWithin
  rw [show (dats m ρ 0 c).owed t0_0.succ = 0 from rfl]
  isplitl [Hfin]; · iexact Hfin
  isplitl [HO]
  · iexists W'
    isplitr; · ipureintro; exact fun _ _ => Or.inl trivial
    iexact HO
  isplitl [H0]; · iapply (stg_intro c cc0_stg0_0 (xOf m c)); iexact H0
  isplitl [H1]; · iapply (stg_intro c cc0_stg1_0 (wqOf m c)); iexact H1
  isplitl [H2]; · iapply (stg_intro c cc0_stg2_0 (kOf m c)); iexact H2
  isplitl [H3]; · iapply (stg_intro c cc0_stg3_0 (vOf m c)); iexact H3
  isplitl [H4]; · iapply (stg_intro c cc0_stg4_0 (woOf m c)); iexact H4
  iapply (stg_intro c cc0_stg5_0 (outOf m c)); iexact H5

theorem bodyAt_eq : bodyAt0 (F := F) t0_0 = body xM wqM kM vM woM outM gqM (Memref.isWhole_whole _) goM (Memref.isWhole_whole _)
    ksM (Memref.isWhole_whole _) vsM (Memref.isWhole_whole _) cc0_scratch4 cc0_scratch5 cc0_scratch6 cc0_scratch7 :=
  body_eq xM (hstage0_0 0) wqM (hstage0_1 0) kM (hstage0_2 0) vM (hstage0_3 0) woM (hstage0_4 0) outM (hstage0_5 0)
    gqM (Memref.isWhole_whole _) goM (Memref.isWhole_whole _) ksM (Memref.isWhole_whole _) vsM (Memref.isWhole_whole _)
    cc0_scratch4 cc0_scratch5 cc0_scratch6 cc0_scratch7

/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ (bodyAt0 (F := F) t0_0) (fun _ => bodyPost m ρ c)
  rw [bodyAt_eq]
  exact sound_body m ρ c

end BodyOb

/-! ## The launch's ghost state -/

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duty tokens of a device's cells as minted: two for its barrier, one for each other cell. -/
def tokOf (cj : Dev nD × Option CK) : GSem nD τ sig × ℕ × Bool :=
  match cj.2 with
  | none => (barCell cj.1, 0, true)
  | some k => (kcell (cj.1, k), 0, false)
theorem tokOf_injective : Function.Injective tokOf := by
  rintro ⟨c, j⟩ ⟨c', j'⟩ h
  rcases j with _ | k <;> rcases j' with _ | k'
  · have h1 : c = c' := congrArg (fun x : GSem nD τ sig × ℕ × Bool => x.1.1.1) h
    rw [h1]
  · exact absurd (congrArg (fun x : GSem nD τ sig × ℕ × Bool => x.2.2) h) (by show ¬ (true = false); decide)
  · exact absurd (congrArg (fun x : GSem nD τ sig × ℕ × Bool => x.2.2) h) (by show ¬ (false = true); decide)
  · have h1 := kcell_injective (congrArg (fun x : GSem nD τ sig × ℕ × Bool => x.1) h)
    have h2 : c = c' := congrArg Prod.fst h1
    have h3 : k = k' := congrArg Prod.snd h1
    rw [h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem bigSep_option {I : Type} [Fintype I] [DecidableEq I] (Φ : Option I → sProp 𝕄) :
    bigSep Finset.univ Φ = iprop(Φ none ∗ bigSep Finset.univ fun i => Φ (some i)) := by
  have h : (Finset.univ : Finset (Option I)).erase none = Finset.univ.map Function.Embedding.some := by
    ext o; cases o <;> simp
  rw [bigSep_univ_at _ (none : Option I), h, bigSep_map]
  rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over the fifteen hops. -/
abbrev eachHop (Φ : Fin 15 → sProp 𝕄) : sProp 𝕄 := bigSep Finset.univ Φ

/-- A device's cells one kind at a time. -/
theorem bigSep_ck (Φ : CK → sProp 𝕄) : bigSep Finset.univ Φ
    = iprop(Φ none ∗ eachHop (fun h => Φ (some (0, h))) ∗ eachHop (fun h => Φ (some (1, h)))
        ∗ eachHop (fun h => Φ (some (2, h))) ∗ eachHop (fun h => Φ (some (3, h)))) := by
  rw [bigSep_option, bigSep_univ_prod, bigSep_fin4]

/-- The duty tokens of device `c`'s own cells. -/
def toks (c : Dev nD) : sProp 𝕄 :=
  iprop(dutyTok EX (barCell c) 0 true ∗ dutyTok EX (barCell c) 0 false
    ∗ eachHop (fun h => dutyTok EX (xCell c 0 h) 0 false) ∗ eachHop (fun h => dutyTok EX (xCell c 1 h) 0 false)
    ∗ eachHop (fun h => dutyTok EX (xCell c 2 h) 0 false) ∗ eachHop (fun h => dutyTok EX (xCell c 3 h) 0 false))

/-- What the launch element deals device `c`, -/
def G (c : Dev nD) : sProp 𝕄 :=
  iprop((bigSep Finset.univ fun k : CK => roundState EX (sched (gqOf m) (goOf m)) (kcell (c, k)) 0)
    ∗ (bigSep Finset.univ fun k : CK => iprop(atPos EX (kcell (c, k)) 0 ∅ 0 ∗ reached EX (kcell (c, k)) 0)) ∗ toks c)

/-- the positions in its cells, -/
def posns (c : Dev nD) : sProp 𝕄 :=
  iprop(atPos EX (barCell c) 0 ∅ 0
    ∗ eachHop (fun h => atPos EX (xCell c 0 h) 0 ∅ 0) ∗ eachHop (fun h => atPos EX (xCell c 1 h) 0 ∅ 0)
    ∗ eachHop (fun h => atPos EX (xCell c 2 h) 0 ∅ 0) ∗ eachHop (fun h => atPos EX (xCell c 3 h) 0 ∅ 0))

/-- the tokens of the duties it pays, -/
def payToks (c : Dev nD) : sProp 𝕄 :=
  iprop((dutyTok EX (barCell (prv c)) 0 true ∗ dutyTok EX (barCell (nxt c)) 0 false)
    ∗ eachHop (fun h => dutyTok EX (xCell c 0 h) 0 false) ∗ eachHop (fun h => dutyTok EX (xCell (nxt c) 1 h) 0 false)
    ∗ eachHop (fun h => dutyTok EX (xCell c 2 h) 0 false) ∗ eachHop (fun h => dutyTok EX (xCell (prv c) 3 h) 0 false))

/-- and what it has once all cells are open. -/
def G' (c : Dev nD) : sProp 𝕄 := iprop(∃ K, recs (gqOf m) (goOf m) K ∗ posns c ∗ payToks c)

theorem fund_ring : BI.own (EX (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok EX x.1 x.2.1 x.2.2 : sProp 𝕄)) = bigSep Finset.univ fun c : Dev nD => toks c := by
    unfold ringToks; rw [bigSep_map, bigSep_univ_prod]
    exact bigSep_congr fun c _ => by unfold toks; rw [bigSep_option, bigSep_ck]; rfl
  iintro HX
  imod (Rounds.fund EX (sched (gqOf m) (goOf m)) ringCells ringToks) $$ HX with ⟨Hst, Hr, Hat, Htok⟩
  imodintro
  ihave Hst' := (Entails.of_eq (hX fun g => roundState EX (sched (gqOf m) (goOf m)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of the hops are the kernel's own. -/
theorem ownSems0_eq (c : Dev nD) : (Pipeline.ownSems0 (Ix := Unit) (Name := ℕ) (U := UU) (Lvl := ℕ) (Val := Elt F) (τ := τ) osem c : sProp 𝕄)
    = iprop(eachHop (fun h => semVal (xCell c 0 h) 0) ∗ eachHop (fun h => semVal (xCell c 1 h) 0)
      ∗ eachHop (fun h => semVal (xCell c 2 h) 0) ∗ eachHop (fun h => semVal (xCell c 3 h) 0)) := by
  unfold Pipeline.ownSems0; rw [bigSep_univ_prod, bigSep_fin4]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched (gqOf m) (goOf m)) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState EX (sched (gqOf m) (goOf m)) (kcell (c, k)) 0)
      ⊢ (|={Set.univ}=> bigSep Finset.univ fun k => iprop(∃ κ : ℕ, cellInv EX (sched (gqOf m) (goOf m)) κ (kcell (c, k))) : sProp 𝕄) from by
        rw [← bigSep_sep']
        exact (bigSep_mono fun k _ => (Rounds.body_intro EX (sched (gqOf m) (goOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: each goes to the device that pays with it. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok EX (barCell c) 0 true : sProp 𝕄)),
    bigSep_univ_equiv ring (fun c : Dev nD => (dutyTok EX (barCell c) 0 false : sProp 𝕄)),
    bigSep_univ_equiv ring (fun c : Dev nD => (eachHop fun h => dutyTok EX (xCell c 1 h) 0 false : sProp 𝕄)),
    bigSep_univ_equiv ring.symm (fun c : Dev nD => (eachHop fun h => dutyTok EX (xCell c 3 h) 0 false : sProp 𝕄))]
  iintro ⟨H1, H2, H3, H4, H5, H6⟩
  isplitl [H1 H2]
  · isplitl [H1]; · iexact H1
    iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × CK → ℕ) (c : Dev nD) : iprop(recs (gqOf m) (goOf m) K ∗ (posns (F := F) c ∗ payToks c)) ⊢ G' m c := by
  unfold G'
  iintro H
  iexists K
  iexact H

theorem regroup :
    (bigSep Finset.univ fun c : Dev nD => iprop((bigSep Finset.univ fun k => iprop(∃ κ : ℕ, cellInv EX (sched (gqOf m) (goOf m)) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  have hp (c : Dev nD) : (bigSep Finset.univ fun k : CK => (atPos EX (kcell (c, k)) 0 ∅ 0 : sProp 𝕄)) = posns c := by
    unfold posns; rw [bigSep_ck]
  rw [bigSep_sep', bigSep_sep', ← bigSep_univ_prod (fun ck : Dev nD × CK => iprop(∃ κ : ℕ, cellInv EX (sched (gqOf m) (goOf m)) κ (kcell ck))),
    bigSep_congr (s := Finset.univ) (fun (c : Dev nD) _ => bigSep_sep' Finset.univ (fun k : CK => (atPos EX (kcell (c, k)) 0 ∅ 0 : sProp 𝕄)) (fun k => reached EX (kcell (c, k)) 0)),
    bigSep_sep', ← bigSep_univ_prod (fun ck : Dev nD × CK => (reached EX (kcell ck) 0 : sProp 𝕄)),
    bigSep_congr (s := Finset.univ) (fun (c : Dev nD) _ => hp c)]
  iintro ⟨HI, ⟨Hat, #HR⟩, Htok⟩
  ihave HK := (BI.bigSep_exists_pi Finset.univ (fun (ck : Dev nD × CK) (κ : ℕ) => (cellInv EX (sched (gqOf m) (goOf m)) κ (kcell ck) : sProp 𝕄))) $$ HI
  icases HK with ⟨%K, #HI⟩
  ihave Htk := (toks_around (F := F)) $$ Htok
  iapply (bigSep_with_persistent (R := recs (gqOf m) (goOf m) K) fun c _ => deal m K c)
  isplitr
  · unfold recs; isplitl; · iexact HI
    iexact HR
  · rw [bigSep_sep']
    isplitl [Hat]; · iexact Hat
    iexact Htk

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : barCell a = barCell b ↔ a = b :=
  ⟨fun h => congrArg (fun g : GSem nD τ sig => g.1.1) h, fun h => h ▸ rfl⟩

theorem x_eq_iff {a b : Dev nD} {i j : Fin 4} {h h' : Fin 15} : xCell a i h = xCell b j h' ↔ a = b ∧ i = j ∧ h = h' := by
  constructor
  · intro e
    have e1 := kcell_injective (a₁ := (a, some (i, h))) (a₂ := (b, some (j, h'))) e
    rw [Prod.mk.injEq, Option.some.injEq, Prod.mk.injEq] at e1
    exact e1
  · rintro ⟨rfl, rfl, rfl⟩; rfl

theorem x_ne_bar (a b : Dev nD) (i : Fin 4) (h : Fin 15) : xCell a i h ≠ barCell b := fun e => by
  have e1 := kcell_injective (a₁ := (a, some (i, h))) (a₂ := (b, none)) e
  exact absurd (congrArg Prod.snd e1) (by simp)

theorem owed_apply (d : Dev nD) (g : GSem nD τ sig) :
    owed d 0 g () = ∑ h : Fin 15, ((if g = xCell (prv d) 3 h then NO else 0) + if g = xCell (nxt d) 1 h then NQ else 0) := by
  unfold owed
  rw [tallies_sum_apply]
  refine Finset.sum_congr rfl fun h _ => ?_
  rw [if_pos (Nat.zero_le _)]
  unfold owedHop
  rw [Pi.add_apply, Finsupp.add_apply, tallyAt_apply, tallyAt_apply]
  rw [if_congr (and_iff_left rfl) rfl rfl, if_congr (and_iff_left rfl) rfl rfl]

theorem eq_prv_iff {a d : Dev nD} : a = prv d ↔ d = nxt a :=
  ⟨fun h => by rw [h, nxt_prv], fun h => by rw [h, prv_nxt]⟩
theorem eq_nxt_iff {a d : Dev nD} : a = nxt d ↔ d = prv a :=
  ⟨fun h => by rw [h, prv_nxt], fun h => by rw [h, nxt_prv]⟩

/-- What device `d` owes device `c`'s barrier: a unit if it is a neighbour, on each side. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owed_apply, tallyAt_apply, tallyAt_apply,
    Finset.sum_eq_zero fun h _ => by rw [if_neg (x_ne_bar _ _ _ _).symm, if_neg (x_ne_bar _ _ _ _).symm, Nat.add_zero], Nat.zero_add,
    if_congr ((and_iff_left rfl).trans (bar_eq_iff.trans eq_nxt_iff)) rfl rfl,
    if_congr ((and_iff_left rfl).trans (bar_eq_iff.trans eq_prv_iff)) rfl rfl]

theorem owed_q (d c : Dev nD) (h : Fin 15) : O₀ d (xCell c 1 h) () = if d = prv c then NQ else 0 := by
  unfold O₀ O₁
  rw [Pi.add_apply, Finsupp.add_apply, Pi.add_apply, Finsupp.add_apply, owed_apply, tallyAt_ne_cell (x_ne_bar _ _ _ _),
    tallyAt_ne_cell (x_ne_bar _ _ _ _), Finsupp.zero_apply, Nat.add_zero, Nat.add_zero,
    Finset.sum_eq_single h (fun h' _ hne => by
      rw [if_neg (fun e => absurd (x_eq_iff.mp e).2.1 (by decide)), if_neg (fun e => hne (x_eq_iff.mp e).2.2.symm), Nat.add_zero])
      (fun hn => absurd (Finset.mem_univ h) hn),
    if_neg (fun e => absurd (x_eq_iff.mp e).2.1 (by decide)), Nat.zero_add]
  exact if_congr (x_eq_iff.trans ((and_iff_left ⟨rfl, rfl⟩).trans eq_nxt_iff)) rfl rfl

theorem owed_o (d c : Dev nD) (h : Fin 15) : O₀ d (xCell c 3 h) () = if d = nxt c then NO else 0 := by
  unfold O₀ O₁
  rw [Pi.add_apply, Finsupp.add_apply, Pi.add_apply, Finsupp.add_apply, owed_apply, tallyAt_ne_cell (x_ne_bar _ _ _ _),
    tallyAt_ne_cell (x_ne_bar _ _ _ _), Finsupp.zero_apply, Nat.add_zero, Nat.add_zero,
    Finset.sum_eq_single h (fun h' _ hne => by
      rw [if_neg (fun e => hne (x_eq_iff.mp e).2.2.symm), if_neg (fun e => absurd (x_eq_iff.mp e).2.1 (by decide)), Nat.add_zero])
      (fun hn => absurd (Finset.mem_univ h) hn),
    if_neg (c := xCell c 3 h = xCell (nxt d) 1 h) (fun e => absurd (x_eq_iff.mp e).2.1 (by decide)), Nat.add_zero]
  exact if_congr (x_eq_iff.trans ((and_iff_left ⟨rfl, rfl⟩).trans eq_prv_iff)) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_q (c : Dev nD) (h : Fin 15) :
    tallyOn (xCell c 1 h) (launchCredit (Pipeline.owing O₀) 0 (xCell c 1 h)) = (tallyAt (xCell c 1 h) () NQ : CellTallies nD τ sig Unit) := by
  unfold tallyAt; refine congrArg _ (Finsupp.ext fun u => ?_); cases u
  rw [Pipeline.launchCredit_owing, Finsupp.single_eq_same, Finset.sum_congr rfl fun d _ => owed_q d c h, Finset.sum_ite_eq' Finset.univ (prv c) fun _ => NQ,
    if_pos (Finset.mem_univ _)]

theorem launch_o (c : Dev nD) (h : Fin 15) :
    tallyOn (xCell c 3 h) (launchCredit (Pipeline.owing O₀) 0 (xCell c 3 h)) = (tallyAt (xCell c 3 h) () NO : CellTallies nD τ sig Unit) := by
  unfold tallyAt; refine congrArg _ (Finsupp.ext fun u => ?_); cases u
  rw [Pipeline.launchCredit_owing, Finsupp.single_eq_same, Finset.sum_congr rfl fun d _ => owed_o d c h, Finset.sum_ite_eq' Finset.univ (nxt c) fun _ => NO,
    if_pos (Finset.mem_univ _)]

/-- The launch's credit of device `c`: its barrier's two units and each arrival's. -/
theorem creds (c : Dev nD) :
    (Pipeline.launchCred O₀ c : sProp 𝕄) ⊢ iprop(cred (tallyAt (barCell c) () 2)
      ∗ eachHop (fun h => cred (tallyAt (xCell c 1 h) () NQ)) ∗ eachHop (fun h => cred (tallyAt (xCell c 3 h) () NO))) := by
  unfold Pipeline.launchCred
  refine (bigSep_subset (Finset.subset_univ (Finset.univ.map ⟨csem, csem_injective⟩))).trans ?_
  rw [bigSep_map, bigSep_ck]
  simp only [Function.Embedding.coeFn_mk, csem, osem, launch_bar, launch_q, launch_o]
  show (iprop(_ ∗ _ ∗ _ ∗ _ ∗ _) : sProp 𝕄) ⊢ _
  iintro ⟨H, -, H1, -, H3⟩
  isplitl [H]; · iexact H
  isplitl [H1] <;> iassumption

/-! ### The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((∃ K, start (gqOf m) (goOf m) K c) ∗ emp) := by
  unfold G' posns payToks start hopRes
  simp only [bigSep_sep']
  iintro ⟨-, Hlev, Hcr, -, ⟨%K, HR, ⟨Hb, Hp0, Hp1, Hp2, Hp3⟩, Htb, Ht⟩⟩
  ihave Hc := (creds (F := F) c) $$ Hcr
  icases Hc with ⟨H2, HN⟩
  imodintro
  isplitl
  · iexists K
    isplitl [HR Htb Hb]
    · isplitl [HR]; · iexact HR
      isplitl [Htb]; · iexact Htb
      iexact Hb
    isplitl [H2]; · iexact H2
    isplitl [Ht Hp0 Hp1 Hp2 Hp3 HN]
    · isplitl [Ht]; · iexact Ht
      isplitl [Hp0 Hp1 Hp2 Hp3]
      · isplitl [Hp0]; · iexact Hp0
        isplitl [Hp1]; · iexact Hp1
        isplitl [Hp2] <;> iassumption
      iexact HN
    iexact Hlev
  · iempintro

theorem scopedRest_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop((∃ K, start (gqOf m) (goOf m) K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = final (F := F) c from rfl, scopedRest_eq, ownSems0_eq, unscopedSems0_eq]
  unfold final zeros
  simp only [bigSep_sep']
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with zero counters: every weakly fair execution
of @main terminates, and every final state has each device's result array at the computed contents, the arguments
unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(∃ K, start (gqOf m) (goOf m) K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (hw : (cfg0.win w).isOut = false) :
    finalA m ρ c w = m ((cfg0.win w).arr.view.loc (c : Thread nD τ)) :=
  (dats m ρ 0 c).arrAt_in w hw _

end Cert.KernelIdeal.Own

end
-- ==== Proof.Spec.lean ====
/- What both programs compute, one result element at a time: the masked attention of a row of queries to the keys and
   values of each head, and the product of the heads' rows with the output weight. Every number is an extended real. -/
module

public import Idealize.ShloMosaic.Lib.Pointwise

@[expose] public section

noncomputable section

namespace Cert.Own

open Idealize.ShloMosaic

/-- Whether a query of block `qb` of the sequence sees a key of block `kb`: the two block numbers agree modulo four. -/
def seesB (qb kb : ℕ) : BitVec 1 := BitVec.ofBool (decide (qb % 4 = kb))

/-- Whether a query of block `qb` sees any key at all: there are keys of blocks zero and one only. -/
def keepB (qb : ℕ) : BitVec 1 := BitVec.ofBool (decide (qb % 4 < 2))

/-- The score of a query `q` of block `qb` against key `k`. -/
def rowS (qb : ℕ) (q : Fin 64 → EReal) (K : Fin 128 → Fin 64 → EReal) (k : Fin 128) : EReal :=
  Scalar.select (seesB qb (k.val / 64)) ((∑ d, q d * K k d) * Ideal.ofBits .f32 0x3E000000#32)
    (Ideal.ofBits .f32 0xCE6E6B28#32)

/-- The exponential of a row's entry, the row's largest entry taken off first. -/
def rowE (s : Fin 128 → EReal) (k : Fin 128) : EReal :=
  Ideal.exp (s k - Finset.univ.fold max (Ideal.ofBits .f32 0xFF800000#32) s)

/-- The weight: an exponential over the sum of its row, and zero for a query that sees no key. -/
def rowW (qb : ℕ) (e : Fin 128 → EReal) (k : Fin 128) : EReal :=
  Scalar.select (keepB qb) (Ideal.div (e k) (Scalar.select (keepB qb) (∑ x, e x) 1)) 0

/-- Column `d` of one head's result for a query `q` of block `qb`. -/
def rowC (qb : ℕ) (q : Fin 64 → EReal) (K V : Fin 128 → Fin 64 → EReal) (d : Fin 64) : EReal :=
  ∑ k, rowW qb (rowE (rowS qb q K)) k * V k d

/-- One element of the result, from a row `x` of the input, the query weight, each head's keys and values, and a column
of the output weight: over the heads `h` and their columns `d`, the head's result times the output weight. -/
def attn (qb : ℕ) (x : Fin 512 → EReal) (wq : Fin 512 → Fin 4096 → EReal) (K V : Fin 64 → Fin 128 → Fin 64 → EReal)
    (wo : Fin 4096 → EReal) : EReal :=
  ∑ h : Fin 64, ∑ d : Fin 64,
    rowC qb (fun d => ∑ i, x i * wq i ⟨64 * h.val + d.val, by omega⟩) (K h) (V h) d * wo ⟨64 * h.val + d.val, by omega⟩

/-- The same sum, the heads taken in sixteen blocks of four. -/
theorem attn_blocks (qb : ℕ) (x : Fin 512 → EReal) (wq : Fin 512 → Fin 4096 → EReal)
    (K V : Fin 64 → Fin 128 → Fin 64 → EReal) (wo : Fin 4096 → EReal) :
    attn qb x wq K V wo = ∑ j : Fin 16, ∑ a : Fin 4, ∑ d : Fin 64,
      rowC qb (fun d => ∑ i, x i * wq i ⟨256 * j.val + (64 * a.val + d.val), by omega⟩) (K ⟨4 * j.val + a.val, by omega⟩)
        (V ⟨4 * j.val + a.val, by omega⟩) d * wo ⟨256 * j.val + (64 * a.val + d.val), by omega⟩ := by
  have e : ∀ (j : Fin 16) (a : Fin 4) (d : Fin 64) (h : 64 * (j.val * 4 + a.val) + d.val < 4096),
      (⟨64 * (j.val * 4 + a.val) + d.val, h⟩ : Fin 4096) = ⟨256 * j.val + (64 * a.val + d.val), by omega⟩ :=
    fun j a d h => Fin.ext (by show 64 * (j.val * 4 + a.val) + d.val = 256 * j.val + (64 * a.val + d.val); omega)
  have e' : ∀ (j : Fin 16) (a : Fin 4) (h : j.val * 4 + a.val < 64),
      (⟨j.val * 4 + a.val, h⟩ : Fin 64) = ⟨4 * j.val + a.val, by omega⟩ :=
    fun j a h => Fin.ext (by show j.val * 4 + a.val = 4 * j.val + a.val; omega)
  unfold attn
  rw [Fin.sum_univ_tiles 16 4 rfl]
  refine Finset.sum_congr rfl fun j _ => Finset.sum_congr rfl fun a _ => Finset.sum_congr rfl fun d _ => ?_
  simp only [e, e']

end Cert.Own

end

end
-- ==== Proof.KernelMath.lean ====
/- The kernel's result read one element at a time: the mask, one head, one block, and the sum of the sixteen blocks. -/
module

public import proofs.«01_k».proof.Proof.Compute
public import proofs.«01_k».proof.Proof.Spec

@[expose] public section

set_option maxRecDepth 16384

noncomputable section

namespace Cert.KernelIdeal.Own

open Idealize.ShloMosaic Idealize.SL.Sem Cert.KernelIdeal.Gen Cert.Own

/-! ## The mask -/

/-- The block of a key. -/
theorem keyBlock_at (r k : Fin 128) :
    k0_pay8 (iota .tc S128x128 32 [1] iota_S128x128_d1_w32) (ix2 r k) = BitVec.ofNat 32 (k.val / 64) := by
  pointwise [k0_pay8]
  clear r
  revert k
  decide +kernel

/-- The block of a query row of device `c`. -/
theorem queryBlock_at (c : Dev nD) (r k : Fin 128) :
    k0_pay7 (iota .tc S128x128 32 [0] iota_S128x128_d0_w32)
      (Scalar.muli (Scalar.remsi (Scalar.divsi (Dev.word c) 1#32) 16#32) 2#32) 64#32 k0_pay6 0#32 (ix2 r k)
      = BitVec.ofNat 32 ((128 * c.val + r.val) / 64) := by
  pointwise [k0_pay7, k0_pay6]
  clear k
  revert c r
  decide +kernel

/-- The mask as one bit of two block numbers. -/
theorem sees_word : ∀ (n : Fin 32) (j : Fin 2),
    IntOp.ori (IntOp.cmpi .eq (BitVec.ofNat 32 n.val) (BitVec.ofNat 32 j.val))
      (IntOp.cmpi .eq (IntOp.remsi .vector (BitVec.ofNat 32 n.val) 4#32) (IntOp.remsi .vector (BitVec.ofNat 32 j.val) 4#32))
      = seesB n.val j.val := by
  decide +kernel

theorem mask_at (c : Dev nD) (r k : Fin 128) :
    k0_pay9
      (k0_pay7 (iota .tc S128x128 32 [0] iota_S128x128_d0_w32)
        (Scalar.muli (Scalar.remsi (Scalar.divsi (Dev.word c) 1#32) 16#32) 2#32) 64#32 k0_pay6 0#32)
      (k0_pay8 (iota .tc S128x128 32 [1] iota_S128x128_d1_w32)) (ix2 r k)
      = seesB ((128 * c.val + r.val) / 64) (k.val / 64) := by
  have hc : c.val < 16 := c.isLt
  pointwise [k0_pay9]
  rw [queryBlock_at, keyBlock_at]
  exact sees_word ⟨(128 * c.val + r.val) / 64, by omega⟩ ⟨k.val / 64, by omega⟩

theorem maskOf_at (c : Dev nD) (r k : Fin 128) : maskOf c (ix2 r k) = seesB ((128 * c.val + r.val) / 64) (k.val / 64) :=
  mask_at c r k

/-- A row's largest mask bit is above zero exactly when the row sees a key. -/
theorem keep_word (qb : ℕ) :
    BitVec.ofBool (decide (0 < Finset.univ.fold max (Ideal.ofBits .f32 0xFF800000#32)
      (fun x : Fin 128 => (((BitVec.setWidth 32 (seesB qb (x.val / 64))).toInt : ℝ) : EReal)))) = keepB qb := by
  unfold keepB
  congr 1
  refine decide_eq_decide.mpr ?_
  rw [Finset.lt_fold_max]
  have hb : Ideal.ofBits .f32 0xFF800000#32 = ⊥ := by simp [Ideal.ofBits, Ideal.ieee]
  have h1 : (BitVec.setWidth 32 (1#1)).toInt = 1 := by decide
  have h0 : (BitVec.setWidth 32 (0#1)).toInt = 0 := by decide
  constructor
  · rintro (h | ⟨x, -, h⟩)
    · rw [hb] at h
      exact absurd h (by simp)
    · by_cases hx : qb % 4 = x.val / 64
      · omega
      · exfalso
        have : seesB qb (x.val / 64) = 0#1 := by simp [seesB, hx]
        rw [this, h0] at h
        simp at h
  · intro h
    refine Or.inr ⟨⟨64 * (qb % 4), by omega⟩, Finset.mem_univ _, ?_⟩
    have : seesB qb (64 * (qb % 4) / 64) = 1#1 := by
      have : qb % 4 = 64 * (qb % 4) / 64 := by omega
      simp [seesB, ← this]
    show (0 : EReal) < (((BitVec.setWidth 32 (seesB qb (64 * (qb % 4) / 64))).toInt : ℝ) : EReal)
    rw [this, h1]
    simp

theorem keepOf_at (c : Dev nD) (r : Fin 128) : keepOf Ideal c (ix2 r 0) = keepB ((128 * c.val + r.val) / 64) := by
  refine Eq.trans ?_ (keep_word _)
  pointwise [keepOf, k0_pay10]
  refine congrArg (fun f : Fin 128 → EReal => BitVec.ofBool (decide (0 < Finset.univ.fold max (Ideal.ofBits .f32 0xFF800000#32) f)))
    (funext fun x => ?_)
  exact congrArg (fun w : BitVec 1 => (((BitVec.setWidth 32 w).toInt : ℝ) : EReal)) (mask_at c r x)

/-! ## One head -/

/-- A score is the row's score. -/
theorem scoreOf_at (mask : IVec S128x128 1) (q : FVec Ideal S128x256 .bf16) (a : Fin 4) (k : Vec Ideal S1x128x1x64 .bf16)
    (r : Fin 128) (qb : ℕ) (hm : ∀ j : Fin 128, mask (ix2 r j) = seesB qb (j.val / 64)) (j : Fin 128) :
    scoreOf (F := Ideal) mask q a k (ix2 r j)
      = rowS qb (fun d => q (ix2 r ⟨64 * a.val + d.val, by omega⟩)) (fun j d => k (ix4 0 j 0 d)) j := by
  pointwise [scoreOf, rowS, hm]

theorem expOf_at (s : FVec Ideal S128x128 .f32) (r j : Fin 128) :
    expOf (F := Ideal) s (ix2 r j) = rowE (fun j => s (ix2 r j)) j := by
  pointwise [expOf, rowE]

theorem weightOf_at (keep : IVec S128x1 1) (e : FVec Ideal S128x128 .f32) (r : Fin 128) (qb : ℕ)
    (hk : keep (ix2 r 0) = keepB qb) (j : Fin 128) :
    weightOf (F := Ideal) keep e (ix2 r j) = rowW qb (fun j => e (ix2 r j)) j := by
  pointwise [weightOf, rowW, hk]

theorem headOf_at (mask : IVec S128x128 1) (keep : IVec S128x1 1) (q : FVec Ideal S128x256 .bf16) (a : Fin 4)
    (k v : Vec Ideal S1x128x1x64 .bf16) (r : Fin 128) (qb : ℕ)
    (hm : ∀ j : Fin 128, mask (ix2 r j) = seesB qb (j.val / 64)) (hk : keep (ix2 r 0) = keepB qb) (d : Fin 64) :
    headOf (F := Ideal) mask keep q a k v (ix2 r d)
      = rowC qb (fun d => q (ix2 r ⟨64 * a.val + d.val, by omega⟩)) (fun j d => k (ix4 0 j 0 d)) (fun j d => v (ix4 0 j 0 d)) d := by
  pointwise [headOf, rowC]
  refine Finset.sum_congr rfl fun j _ => ?_
  rw [weightOf_at keep _ r qb hk j]
  have hs : (fun j => expOf (scoreOf (F := Ideal) mask q a k) (ix2 r j))
      = rowE (rowS qb (fun d => q (ix2 r ⟨64 * a.val + d.val, by omega⟩)) (fun j d => k (ix4 0 j 0 d))) := by
    funext j
    rw [expOf_at]
    exact congrArg (fun s => rowE s j) (funext fun j => scoreOf_at mask q a k r qb hm j)
  rw [hs]

/-! ## One block -/

theorem qOf_at (x : Vec Ideal S2x128x512 .bf16) (b : Fin 2) (wq : Vec Ideal S1x512x256 .bf16) (r : Fin 128) (e : Fin 256) :
    qOf (F := Ideal) x b wq (ix2 r e) = ∑ i : Fin 512, x (ix3 b r i) * wq (ix3 0 i e) := by
  pointwise [qOf]

/-- Four pieces of sixty-four columns side by side, read at column `d` of piece `a`. -/
theorem ladder_at (H : Fin 4 → Fin 64 → EReal) (a : Fin 4) (d : Fin 64) (n : ℕ) (hn : n = a.val * 64 + d.val)
    (h3 : n - 64 - 64 - 64 < 64) :
    (if h : n < 64 then H 0 ⟨n, h⟩ else if h : n - 64 < 64 then H 1 ⟨n - 64, h⟩
      else if h : n - 64 - 64 < 64 then H 2 ⟨n - 64 - 64, h⟩ else H 3 ⟨n - 64 - 64 - 64, h3⟩) = H a d := by
  have hd : d.val < 64 := d.isLt
  match a with
  | 0 =>
    have hn' : n = d.val := by simpa using hn
    rw [dif_pos (by omega)]
    exact congrArg (H 0) (Fin.ext hn')
  | 1 =>
    have hn' : n = 64 + d.val := by simpa using hn
    rw [dif_neg (by omega), dif_pos (by omega)]
    exact congrArg (H 1) (Fin.ext (by show n - 64 = d.val; omega))
  | 2 =>
    have hn' : n = 128 + d.val := by simpa using hn
    rw [dif_neg (by omega), dif_neg (by omega), dif_pos (by omega)]
    exact congrArg (H 2) (Fin.ext (by show n - 64 - 64 = d.val; omega))
  | 3 =>
    have hn' : n = 192 + d.val := by simpa using hn
    rw [dif_neg (by omega), dif_neg (by omega), dif_neg (by omega)]
    exact congrArg (H 3) (Fin.ext (by show n - 64 - 64 - 64 = d.val; omega))

/-- One block added: over its four heads and their columns, the head times the output weight's row. -/
theorem accOf_at (acc : FVec Ideal S128x512 .f32) (H : Fin 4 → FVec Ideal S128x64 .bf16) (wo : Vec Ideal S1x256x512 .bf16)
    (r : Fin 128) (e : Fin 512) :
    accOf (F := Ideal) acc (H 0) (H 1) (H 2) (H 3) wo (ix2 r e)
      = acc (ix2 r e) + ∑ a : Fin 4, ∑ d : Fin 64, H a (ix2 r d) * wo (ix3 0 ⟨64 * a.val + d.val, by omega⟩ e) := by
  pointwise [accOf]
  refine congrArg (acc (ix2 r e) + ·) ?_
  rw [Fin.sum_univ_tiles 4 64 rfl]
  refine Finset.sum_congr rfl fun a _ => Finset.sum_congr rfl fun d _ => ?_
  have he : (⟨a.val * 64 + d.val, by omega⟩ : Fin 256) = ⟨64 * a.val + d.val, by omega⟩ := Fin.ext (by show a.val * 64 + d.val = 64 * a.val + d.val; omega)
  rw [← he]
  refine congrArg (· * _) ?_
  exact ladder_at (fun a d => H a (ix2 r d)) a d _ rfl (by omega)

/-- What block `j` adds to one element. -/
theorem blockV_at (mask : IVec S128x128 1) (keep : IVec S128x1 1) (x : Vec Ideal S2x128x512 .bf16) (gq : Vec Ideal S16x512x256 .bf16)
    (go : Vec Ideal S16x256x512 .bf16) (ks vs : Vec Ideal S2x128x64x64 .bf16) (b : Fin 2) (j : Fin 16) (acc : FVec Ideal S128x512 .f32)
    (r : Fin 128) (e : Fin 512) (qb : ℕ) (hm : ∀ j : Fin 128, mask (ix2 r j) = seesB qb (j.val / 64)) (hk : keep (ix2 r 0) = keepB qb) :
    blockV (F := Ideal) mask keep x gq go ks vs b j acc (ix2 r e) = acc (ix2 r e) + ∑ a : Fin 4, ∑ d : Fin 64,
      rowC qb (fun d => ∑ i : Fin 512, x (ix3 b r i) * gq (ix3 j i ⟨64 * a.val + d.val, by omega⟩))
        (fun k d => ks (ix4 b k ⟨4 * j.val + a.val, by omega⟩ d)) (fun k d => vs (ix4 b k ⟨4 * j.val + a.val, by omega⟩ d)) d
        * go (ix3 j ⟨64 * a.val + d.val, by omega⟩ e) := by
  refine (accOf_at acc (fun a => headV mask keep ks vs b j (qOf x b (wqAt j gq)) a) (woAt j go) r e).trans ?_
  refine congrArg (acc (ix2 r e) + ·) (Finset.sum_congr rfl fun a _ => Finset.sum_congr rfl fun d _ => ?_)
  refine congrArg₂ (· * ·) ?_ rfl
  refine (headOf_at mask keep _ a _ _ r qb hm hk d).trans ?_
  refine congrArg (fun q => rowC qb q _ _ d) (funext fun d => ?_)
  exact qOf_at x b _ r _

/-- One element of the result: the sum over the sixteen blocks. -/
theorem outV_at (mask : IVec S128x128 1) (keep : IVec S128x1 1) (x : Vec Ideal S2x128x512 .bf16) (gq : Vec Ideal S16x512x256 .bf16)
    (go : Vec Ideal S16x256x512 .bf16) (ks vs : Vec Ideal S2x128x64x64 .bf16) (b : Fin 2)
    (r : Fin 128) (e : Fin 512) (qb : ℕ) (hm : ∀ j : Fin 128, mask (ix2 r j) = seesB qb (j.val / 64)) (hk : keep (ix2 r 0) = keepB qb) :
    outV (F := Ideal) mask keep x gq go ks vs (ix3 b r e) = ∑ j : Fin 16, ∑ a : Fin 4, ∑ d : Fin 64,
      rowC qb (fun d => ∑ i : Fin 512, x (ix3 b r i) * gq (ix3 j i ⟨64 * a.val + d.val, by omega⟩))
        (fun k d => ks (ix4 b k ⟨4 * j.val + a.val, by omega⟩ d)) (fun k d => vs (ix4 b k ⟨4 * j.val + a.val, by omega⟩ d)) d
        * go (ix3 j ⟨64 * a.val + d.val, by omega⟩ e) := by
  let T : Fin 16 → EReal := fun j => ∑ a : Fin 4, ∑ d : Fin 64,
      rowC qb (fun d => ∑ i : Fin 512, x (ix3 b r i) * gq (ix3 j i ⟨64 * a.val + d.val, by omega⟩))
        (fun k d => ks (ix4 b k ⟨4 * j.val + a.val, by omega⟩ d)) (fun k d => vs (ix4 b k ⟨4 * j.val + a.val, by omega⟩ d)) d
        * go (ix3 j ⟨64 * a.val + d.val, by omega⟩ e)
  have h : ∀ n : ℕ, blocksV (F := Ideal) mask keep x gq go ks vs b n (ix2 r e) = ∑ i ∈ Finset.range n, T (Fin.ofNat 16 i) := by
    intro n
    induction n with
    | zero =>
      rw [blocksV_zero, Finset.range_zero, Finset.sum_empty]
      pointwise [k0_pay13]
    | succ n ih =>
      rw [blocksV_succ, Finset.sum_range_succ, ← ih]
      exact blockV_at mask keep x gq go ks vs b _ _ r e qb hm hk
  refine (h 16).trans ?_
  rw [Finset.sum_range]
  exact Finset.sum_congr rfl fun j _ => congrArg T (Fin.ext (Nat.mod_eq_of_lt j.isLt))

end Cert.KernelIdeal.Own

end

end
-- ==== Proof.ReferenceMath.lean ====
/- The reference's result read one element at a time. Its composed term is first cut into named steps (`result_steps`):
   the block numbers, the mask, the queries, the scores, the weights, each head's result, the product with the output
   weight. Each step is then read at an index. -/
module

public import proofs.«01_k».proof.Proof.Gen.ReferenceIdeal.Run
public import proofs.«01_k».proof.Proof.Spec

@[expose] public section

set_option maxRecDepth 16384

noncomputable section

namespace Cert.ReferenceIdeal.Own

open Idealize.ShloMosaic Idealize.ShloMosaic.TcCoe Idealize.SL.Sem Cert.ReferenceIdeal Cert.ReferenceIdeal.Gen Cert.Own

/-! ## The steps -/

/-- The quotient by `w` rounded down, as the reference computes it. -/
def floorDiv (s : Shape) (h : S_.BroadcastsInDim s ![]) (v : IVec s 32) (w : IVec S_ 32) : IVec s 32 :=
  select
    (andi (cmpi .ne (signi v) (broadcastInDim s ![] h (signi w)))
      (cmpi .ne (Host.remsi v (broadcastInDim s ![] h w)) (broadcastInDim s ![] h (constantI S_ 32 0#32))))
    (subi (Host.divsi v (broadcastInDim s ![] h w)) (broadcastInDim s ![] h (constantI S_ 32 1#32)))
    (Host.divsi v (broadcastInDim s ![] h w))

/-- The divisor of a remainder: one in place of zero. -/
def divisor : IVec S_ 32 :=
  select (cmpi .eq (constantI S_ 32 4#32) (constantI S_ 32 0#32)) (constantI S_ 32 1#32) (constantI S_ 32 4#32)

/-- The remainder by four with the divisor's sign, as the reference computes it. -/
def remFour (s : Shape) (h : S_.BroadcastsInDim s ![]) (v : IVec s 32) : IVec s 32 :=
  select
    (andi
      (cmpi .ne (cmpi .slt (Host.remsi v (broadcastInDim s ![] h divisor)) (broadcastInDim s ![] h (constantI S_ 32 0#32)))
        (broadcastInDim s ![] h (cmpi .slt divisor (constantI S_ 32 0#32))))
      (cmpi .ne (Host.remsi v (broadcastInDim s ![] h divisor)) (broadcastInDim s ![] h (constantI S_ 32 0#32))))
    (addi (Host.remsi v (broadcastInDim s ![] h divisor)) (broadcastInDim s ![] h divisor))
    (Host.remsi v (broadcastInDim s ![] h divisor))

/-- The block of each query, as a column. -/
def queryBlocks : IVec S2048x1 32 :=
  broadcastInDim S2048x1 ![0] bcast_S2048_S2048x1_0 (floorDiv S2048 bcast_S_S2048 (iotaInDim S2048 32 0) (constantI S_ 32 64#32))

/-- The block of each key, as a row. -/
def keyBlocks : IVec S1x128 32 :=
  broadcastInDim S1x128 ![1] bcast_S128_S1x128_1 (floorDiv S128 bcast_S_S128 (iotaInDim S128 32 0) (constantI S_ 32 64#32))

/-- The mask. -/
def mask : IVec S2048x128 1 :=
  ori
    (cmpi .eq (broadcastInDim S2048x128 ![0, 1] bcast_S2048x1_S2048x128_0_1 queryBlocks)
      (broadcastInDim S2048x128 ![0, 1] bcast_S1x128_S2048x128_0_1 keyBlocks))
    (cmpi .eq (broadcastInDim S2048x128 ![0, 1] bcast_S1x128_S2048x128_0_1 (remFour S1x128 bcast_S_S1x128 keyBlocks))
      (broadcastInDim S2048x128 ![0, 1] bcast_S2048x1_S2048x128_0_1 (remFour S2048x1 bcast_S_S2048x1 queryBlocks)))

/-- The queries that see a key at all. -/
def keep (mask : IVec S2048x128 1) : IVec S1x1x2048x1 1 :=
  broadcastInDim S1x1x2048x1 ![2] bcast_S2048_S1x1x2048x1_2
    (Host.reduce IntOp.ori mask (constantI S_ 1 0#1) reducesTo_S2048x128_S2048_d1 h_S_)

/-- The queries, head by head. -/
def queries (x : FVec Ideal S2x2048x512 .bf16) (wq : FVec Ideal S512x4096 .bf16) : FVec Ideal S2x2048x64x64 .bf16 :=
  shapeCast _ (truncf .bf16 (Host.dotGeneral dot_S2x2048x512_S512x4096_S2x2048x4096_2_0_01_1_n_n none x wq : FVec Ideal S2x2048x4096 .f32) bitsLt_bf16_f32)
    shapeCasts_S2x2048x4096_S2x2048x64x64

/-- The masked scores. -/
def scores (mask : IVec S2048x128 1) (q : FVec Ideal S2x2048x64x64 .bf16) (k : FVec Ideal S2x128x64x64 .bf16) : FVec Ideal S2x64x2048x128 .f32 :=
  select
    (broadcastInDim S2x64x2048x128 ![0, 1, 2, 3] bcast_S1x1x2048x128_S2x64x2048x128_0_1_2_3
      (broadcastInDim S1x1x2048x128 ![2, 3] bcast_S2048x128_S1x1x2048x128_2_3 mask))
    (mulf
      (extf .f32 (truncf .bf16 (Host.dotGeneral dot_S2x2048x64x64_S2x128x64x64_S2x64x2048x128_3_3_1_1_02_02 none q k : FVec Ideal S2x64x2048x128 .f32) bitsLt_bf16_f32) bitsLt_bf16_f32)
      (broadcastInDim S2x64x2048x128 ![] bcast_S_S2x64x2048x128 (constant S_ .f32 0x3E000000#32)))
    (broadcastInDim S2x64x2048x128 ![] bcast_S_S2x64x2048x128 (constant S_ .f32 0xCE6E6B28#32))

/-- The exponentials of the scores, the row's largest taken off first. -/
def exps (s : FVec Ideal S2x64x2048x128 .f32) : FVec Ideal S2x64x2048x128 .f32 :=
  Host.exp (subf s (broadcastInDim S2x64x2048x128 ![0, 1, 2, 3] bcast_S2x64x2048x1_S2x64x2048x128_0_1_2_3
    (broadcastInDim S2x64x2048x1 ![0, 1, 2] bcast_S2x64x2048_S2x64x2048x1_0_1_2
      (Host.reduce FloatOps.maximumf s (constant S_ .f32 0xFF800000#32) reducesTo_S2x64x2048x128_S2x64x2048_d3 h_S_))))

/-- The weights. -/
def weights (keep : IVec S1x1x2048x1 1) (e : FVec Ideal S2x64x2048x128 .f32) : FVec Ideal S2x64x2048x128 .f32 :=
  select (broadcastInDim S2x64x2048x128 ![0, 1, 2, 3] bcast_S1x1x2048x1_S2x64x2048x128_0_1_2_3 keep)
    (Host.divf e (broadcastInDim S2x64x2048x128 ![0, 1, 2, 3] bcast_S2x64x2048x1_S2x64x2048x128_0_1_2_3
      (select (broadcastInDim S2x64x2048x1 ![0, 1, 2, 3] bcast_S1x1x2048x1_S2x64x2048x1_0_1_2_3 keep)
        (broadcastInDim S2x64x2048x1 ![0, 1, 2] bcast_S2x64x2048_S2x64x2048x1_0_1_2
          (Host.reduceAdd e (constant S_ .f32 0x00000000#32) reducesTo_S2x64x2048x128_S2x64x2048_d3 h_S_))
        (broadcastInDim S2x64x2048x1 ![] bcast_S_S2x64x2048x1 (constant S_ .f32 0x3F800000#32)))))
    (broadcastInDim S2x64x2048x128 ![] bcast_S_S2x64x2048x128 (constant S_ .f32 0x00000000#32))

/-- The heads' results side by side. -/
def context (w : FVec Ideal S2x64x2048x128 .f32) (v : FVec Ideal S2x128x64x64 .bf16) : FVec Ideal S2x2048x4096 .f32 :=
  shapeCast _ (transpose S2x2048x64x64 [0, 3, 1, 2]
    (Host.dotGeneral dot_S2x128x64x64_S2x64x2048x128_S2x64x64x2048_1_3_3_2_02_01 none v w : FVec Ideal S2x64x64x2048 .f32)
    transposes_S2x64x64x2048_S2x2048x64x64_0_3_1_2) shapeCasts_S2x2048x64x64_S2x2048x4096

/-- The result. -/
def result (x : FVec Ideal S2x2048x512 .bf16) (wq : FVec Ideal S512x4096 .bf16) (k v : FVec Ideal S2x128x64x64 .bf16)
    (wo : FVec Ideal S4096x512 .bf16) : FVec Ideal S2x2048x512 .f32 :=
  Host.dotGeneral dot_S2x2048x4096_S4096x512_S2x2048x512_2_0_01_1_n_n none
    (context (weights (keep mask) (exps (scores mask (queries x wq) k))) v) wo

/-- The reference's composed term is these steps. -/
theorem result_steps (m : (ℓ : Loc nD τ sig) → Buf (Elt Ideal) ℓ) (c : Dev nD) :
    Value.res_main_v42 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask -/

theorem queryBlocks_at (n : Fin 2048) : queryBlocks (ix2 n 0) = BitVec.ofNat 32 (n.val / 64) := by
  pointwise [queryBlocks, floorDiv]
  revert n
  decide +kernel

theorem keyBlocks_at (k : Fin 128) : keyBlocks (ix2 0 k) = BitVec.ofNat 32 (k.val / 64) := by
  pointwise [keyBlocks, floorDiv]
  revert k
  decide +kernel

/-- The remainder by four of a small number, as the reference computes it. -/
def remWord (v : BitVec 32) : BitVec 32 :=
  Scalar.select
    (IntOp.andi
      (IntOp.cmpi .ne
        (IntOp.cmpi .slt (IntOp.remsi .host v (Scalar.select (IntOp.cmpi .eq 4#32 0#32) 1#32 4#32)) 0#32)
        (IntOp.cmpi .slt (Scalar.select (IntOp.cmpi .eq 4#32 0#32) 1#32 4#32) 0#32))
      (IntOp.cmpi .ne (IntOp.remsi .host v (Scalar.select (IntOp.cmpi .eq 4#32 0#32) 1#32 4#32)) 0#32))
    (IntOp.addi (IntOp.remsi .host v (Scalar.select (IntOp.cmpi .eq 4#32 0#32) 1#32 4#32))
      (Scalar.select (IntOp.cmpi .eq 4#32 0#32) 1#32 4#32))
    (IntOp.remsi .host v (Scalar.select (IntOp.cmpi .eq 4#32 0#32) 1#32 4#32))

/-- The mask as one bit of two block numbers. -/
theorem sees_word : ∀ (n : Fin 32) (j : Fin 2),
    IntOp.ori (IntOp.cmpi .eq (BitVec.ofNat 32 n.val) (BitVec.ofNat 32 j.val))
      (IntOp.cmpi .eq (remWord (BitVec.ofNat 32 j.val)) (remWord (BitVec.ofNat 32 n.val)))
      = seesB n.val j.val := by
  decide +kernel

theorem mask_at (n : Fin 2048) (k : Fin 128) : mask (ix2 n k) = seesB (n.val / 64) (k.val / 64) := by
  pointwise [mask, remFour, divisor]
  rw [queryBlocks_at, keyBlocks_at]
  exact sees_word ⟨n.val / 64, by omega⟩ ⟨k.val / 64, by omega⟩

/-- The bits of a row joined: set exactly when the row sees a key. -/
theorem keep_word : ∀ qb : Fin 32, Finset.univ.fold IntOp.ori (0#1) (fun x : Fin 128 => seesB qb.val (x.val / 64)) = keepB qb.val := by
  decide +kernel

theorem keep_at (n : Fin 2048) : keep mask (ix4 0 0 n 0) = keepB (n.val / 64) := by
  pointwise [keep]
  refine Eq.trans ?_ (keep_word ⟨n.val / 64, by omega⟩)
  exact congrArg (fun f : Fin 128 → BitVec 1 => Finset.univ.fold IntOp.ori (0#1) f) (funext fun x => mask_at n x)

/-! ## One row -/

theorem queries_at (x : FVec Ideal S2x2048x512 .bf16) (wq : FVec Ideal S512x4096 .bf16) (b : Fin 2) (n : Fin 2048) (h d : Fin 64) :
    queries x wq (ix4 b n h d) = ∑ i : Fin 512, x (ix3 b n i) * wq (ix2 i ⟨64 * h.val + d.val, by omega⟩) := by
  pointwise [queries]
  refine Finset.sum_congr rfl fun i _ => congrArg (fun z : Fin 4096 => x (ix3 b n i) * wq (ix2 i z)) (Fin.ext ?_)
  show h.val * 64 + d.val = 64 * h.val + d.val
  omega

theorem scores_at (q : FVec Ideal S2x2048x64x64 .bf16) (k : FVec Ideal S2x128x64x64 .bf16) (b : Fin 2) (h : Fin 64) (n : Fin 2048) (j : Fin 128) :
    scores mask q k (ix4 b h n j) = rowS (n.val / 64) (fun d => q (ix4 b n h d)) (fun j d => k (ix4 b j h d)) j := by
  pointwise [scores, rowS]
  rw [mask_at]

theorem exps_at (s : FVec Ideal S2x64x2048x128 .f32) (b : Fin 2) (h : Fin 64) (n : Fin 2048) (j : Fin 128) :
    exps s (ix4 b h n j) = rowE (fun j => s (ix4 b h n j)) j := by
  pointwise [exps, rowE]

theorem weights_at (e : FVec Ideal S2x64x2048x128 .f32) (b : Fin 2) (h : Fin 64) (n : Fin 2048) (j : Fin 128) :
    weights (keep mask) e (ix4 b h n j) = rowW (n.val / 64) (fun j => e (ix4 b h n j)) j := by
  pointwise [weights, rowW]
  rw [keep_at]

theorem context_at (w : FVec Ideal S2x64x2048x128 .f32) (v : FVec Ideal S2x128x64x64 .bf16) (b : Fin 2) (n : Fin 2048) (h d : Fin 64) :
    context w v (ix3 b n ⟨64 * h.val + d.val, by omega⟩) = ∑ j : Fin 128, w (ix4 b h n j) * v (ix4 b j h d) := by
  pointwise [context]
  exact Finset.sum_congr rfl fun j _ => mul_comm _ _

/-- One element of the heads' results. -/
theorem head_at (x : FVec Ideal S2x2048x512 .bf16) (wq : FVec Ideal S512x4096 .bf16) (k v : FVec Ideal S2x128x64x64 .bf16)
    (b : Fin 2) (n : Fin 2048) (h d : Fin 64) :
    context (weights (keep mask) (exps (scores mask (queries x wq) k))) v (ix3 b n ⟨64 * h.val + d.val, by omega⟩)
      = rowC (n.val / 64) (fun d => ∑ i : Fin 512, x (ix3 b n i) * wq (ix2 i ⟨64 * h.val + d.val, by omega⟩))
          (fun j d => k (ix4 b j h d)) (fun j d => v (ix4 b j h d)) d := by
  refine (context_at _ v b n h d).trans ?_
  unfold rowC
  refine Finset.sum_congr rfl fun j _ => congrArg (fun z : EReal => z * v (ix4 b j h d)) ?_
  refine (weights_at _ b h n j).trans (congrArg (fun e => rowW (n.val / 64) e j) (funext fun j => ?_))
  refine (exps_at _ b h n j).trans (congrArg (fun s => rowE s j) (funext fun j => ?_))
  refine (scores_at _ k b h n j).trans (congrArg (fun q => rowS (n.val / 64) q _ j) (funext fun d => ?_))
  exact queries_at x wq b n h d

/-- One element of the result. -/
theorem result_at (x : FVec Ideal S2x2048x512 .bf16) (wq : FVec Ideal S512x4096 .bf16) (k v : FVec Ideal S2x128x64x64 .bf16)
    (wo : FVec Ideal S4096x512 .bf16) (b : Fin 2) (n : Fin 2048) (e : Fin 512) :
    result x wq k v wo (ix3 b n e) = attn (n.val / 64) (fun i => x (ix3 b n i)) (fun i z => wq (ix2 i z))
      (fun h j d => k (ix4 b j h d)) (fun h j d => v (ix4 b j h d)) (fun z => wo (ix2 z e)) := by
  pointwise [result]
  rw [Fin.sum_univ_tiles 64 64 rfl]
  refine Finset.sum_congr rfl fun h _ => Finset.sum_congr rfl fun d _ => ?_
  have he : (⟨h.val * 64 + d.val, by omega⟩ : Fin 4096) = ⟨64 * h.val + d.val, by omega⟩ :=
    Fin.ext (by show h.val * 64 + d.val = 64 * h.val + d.val; omega)
  refine (congrArg (fun z : Fin 4096 => context (weights (keep mask) (exps (scores mask (queries x wq) k))) v (ix3 b n z) * wo (ix2 z e)) he).trans ?_
  exact congrArg (· * _) (head_at x wq k v b n h d)

end Cert.ReferenceIdeal.Own

end

end
-- ==== Proof.Value.lean ====
/- What the kernel leaves on each device, at the real numbers: device `c` ends holding its block of the reference's
   result. The staged blocks are the whole arguments; the gathered weights are the blocks of all sixteen devices. -/
module

public import proofs.«01_k».proof.Proof.Run
public import proofs.«01_k».proof.Proof.KernelMath
public import proofs.«01_k».proof.Proof.ReferenceMath
public import Idealize.ShloMosaic.Lib.Pipeline.ValueKit

@[expose] public section

noncomputable section

namespace Cert.KernelIdeal.Own

open Cert.KernelIdeal.Gen Cert.Own
open Idealize.ShloMosaic Idealize.ShloMosaic.TcCoe
open Idealize.ShloMosaic.Pipeline (Dat Cfg Window)

variable (m : (ℓ : Loc nD τ sig) → Buf (Elt Ideal) ℓ) (ρ : Dev nD → PrngReg)

/-- Every window's one block starts at the array's start. -/
theorem idx : ∀ t : Fin cfg0.N, win0_0.index t = ![0, 0, 0] ∧ win0_1.index t = ![0, 0] ∧ win0_2.index t = ![0, 0, 0, 0]
    ∧ win0_3.index t = ![0, 0, 0, 0] ∧ win0_4.index t = ![0, 0] ∧ win0_5.index t = ![0, 0, 0] :=
  (by decide +kernel : ∀ t : Fin grid0.N, _)

/-- The staged blocks are the whole arguments. -/
theorem xOf_eq (c : Dev nD) : xOf m c = m ((c : Thread nD τ).loc main_arg0) := by
  unfold xOf; blk_ext! [idx (0 : Fin 1)]
theorem wqOf_eq (c : Dev nD) : wqOf m c = m ((c : Thread nD τ).loc main_arg1) := by
  unfold wqOf; blk_ext! [idx (0 : Fin 1)]
theorem kOf_eq (c : Dev nD) : kOf m c = m ((c : Thread nD τ).loc main_arg2) := by
  unfold kOf; blk_ext! [idx (0 : Fin 1)]
theorem vOf_eq (c : Dev nD) : vOf m c = m ((c : Thread nD τ).loc main_arg3) := by
  unfold vOf; blk_ext! [idx (0 : Fin 1)]
theorem woOf_eq (c : Dev nD) : woOf m c = m ((c : Thread nD τ).loc main_arg4) := by
  unfold woOf; blk_ext! [idx (0 : Fin 1)]

/-- The result's array ends holding what the one block was given. -/
theorem finalA_out (c : Dev nD) : finalA m ρ c (5 : Fin 6) = outOf m c := by
  refine (dats m ρ 0 c).arrAt_eq_of_after_last (5 : Fin 6) t0_0 (by decide +kernel) _ fun j => ?_
  have ha : (dats m ρ 0 c).after (5 : Fin 6) t0_0 = outOf m c := rfl
  rw [ha]
  blk_ext! [idx t0_0]

/-- The gathered weights, one element. -/
theorem gqOf_at (j : Fin 16) (i : Fin 512) (z : Fin 256) : gqOf m (ix3 j i z) = wqOf m j (ix2 i z) := by
  show k0_pay2 (wqOf m j) (ix3 0 i z) = _
  pointwise [k0_pay2]
theorem goOf_at (j : Fin 16) (z : Fin 256) (e : Fin 512) : goOf m (ix3 j z e) = woOf m j (ix2 z e) := by
  show k0_pay3 (woOf m j) (ix3 0 z e) = _
  pointwise [k0_pay3]
theorem keys_at (k : Vec Ideal S2x128x64x64 .bf16) (b : Fin 2) (j : Fin 128) (h d : Fin 64) : k0_pay4 k (ix4 b j h d) = k (ix4 b j h d) := by
  pointwise [k0_pay4]
theorem values_at (v : Vec Ideal S2x128x64x64 .bf16) (b : Fin 2) (j : Fin 128) (h d : Fin 64) : k0_pay5 v (ix4 b j h d) = v (ix4 b j h d) := by
  pointwise [k0_pay5]

/-- One element of device `c`'s result, when the devices' arguments are the blocks of whole arrays: the row is the
whole result's row `128 * c + r`. -/
theorem outOf_at (X : FVec Ideal Cert.ReferenceIdeal.S2x2048x512 .bf16) (WQ : FVec Ideal Cert.ReferenceIdeal.S512x4096 .bf16)
    (K V : FVec Ideal Cert.ReferenceIdeal.S2x128x64x64 .bf16) (WO : FVec Ideal Cert.ReferenceIdeal.S4096x512 .bf16)
    (c : Fin 16) (b : Fin 2) (r : Fin 128) (e : Fin 512)
    (hx : ∀ i : Fin 512, xOf m c (ix3 b r i) = X (ix3 b ⟨128 * c.val + r.val, by omega⟩ i))
    (hq : ∀ (j : Fin 16) (i : Fin 512) (z : Fin 256), wqOf m j (ix2 i z) = WQ (ix2 i ⟨256 * j.val + z.val, by omega⟩))
    (hk : kOf m c = K) (hv : vOf m c = V)
    (ho : ∀ (j : Fin 16) (z : Fin 256), woOf m j (ix2 z e) = WO (ix2 ⟨256 * j.val + z.val, by omega⟩ e)) :
    outOf m c (ix3 b r e) = Cert.ReferenceIdeal.Own.result X WQ K V WO (ix3 b ⟨128 * c.val + r.val, by omega⟩ e) := by
  have hm : ∀ k : Fin 128, maskOf c (ix2 r k) = seesB ((128 * c.val + r.val) / 64) (k.val / 64) := fun k => maskOf_at c r k
  have hl : keepOf Ideal c (ix2 r 0) = keepB ((128 * c.val + r.val) / 64) := keepOf_at c r
  unfold outOf
  generalize hn : (128 * c.val + r.val) / 64 = qb at hm hl
  refine (outV_at (maskOf c) (keepOf Ideal c) (xOf m c) (gqOf m) (goOf m) (k0_pay4 (kOf m c)) (k0_pay5 (vOf m c)) b r e qb hm hl).trans ?_
  subst hn
  refine Eq.trans ?_ (Cert.ReferenceIdeal.Own.result_at X WQ K V WO b ⟨128 * c.val + r.val, by omega⟩ e).symm
  refine Eq.trans ?_ (attn_blocks _ _ _ _ _ _).symm
  refine Finset.sum_congr rfl fun j _ => Finset.sum_congr rfl fun a _ => Finset.sum_congr rfl fun d _ => ?_
  have h1 : (fun d : Fin 64 => ∑ i : Fin 512, xOf m c (ix3 b r i) * gqOf m (ix3 j i ⟨64 * a.val + d.val, by omega⟩))
      = fun d => ∑ i : Fin 512, X (ix3 b ⟨128 * c.val + r.val, by omega⟩ i) * WQ (ix2 i ⟨256 * j.val + (64 * a.val + d.val), by omega⟩) :=
    funext fun d => Finset.sum_congr rfl fun i _ => congrArg₂ (· * ·) (hx i) ((gqOf_at m j i _).trans (hq j i _))
  have h2 : (fun (k : Fin 128) (d : Fin 64) => k0_pay4 (kOf m c) (ix4 b k ⟨4 * j.val + a.val, by omega⟩ d))
      = fun k d => K (ix4 b k ⟨4 * j.val + a.val, by omega⟩ d) :=
    funext fun k => funext fun d => (keys_at _ b k _ d).trans (congrFun hk _)
  have h3 : (fun (k : Fin 128) (d : Fin 64) => k0_pay5 (vOf m c) (ix4 b k ⟨4 * j.val + a.val, by omega⟩ d))
      = fun k d => V (ix4 b k ⟨4 * j.val + a.val, by omega⟩ d) :=
    funext fun k => funext fun d => (values_at _ b k _ d).trans (congrFun hv _)
  refine congrArg₂ (· * ·) ?_ ((goOf_at m j _ e).trans (ho j _))
  rw [h1, h2, h3]

/-- Device `c`'s result is its block of the reference's. -/
theorem outOf_block (X : FVec Ideal Cert.ReferenceIdeal.S2x2048x512 .bf16) (WQ : FVec Ideal Cert.ReferenceIdeal.S512x4096 .bf16)
    (K V : FVec Ideal Cert.ReferenceIdeal.S2x128x64x64 .bf16) (WO : FVec Ideal Cert.ReferenceIdeal.S4096x512 .bf16)
    (h : ∀ c : Dev nD,
      m ((c : Thread nD τ).loc main_arg0) = Layout.block ⟨3, ![2, 128, 512]⟩ ⟨3, ![2, 2048, 512]⟩ 1 16 c X
      ∧ m ((c : Thread nD τ).loc main_arg1) = Layout.block ⟨2, ![512, 256]⟩ ⟨2, ![512, 4096]⟩ 1 16 c WQ
      ∧ m ((c : Thread nD τ).loc main_arg2) = K ∧ m ((c : Thread nD τ).loc main_arg3) = V
      ∧ m ((c : Thread nD τ).loc main_arg4) = Layout.block ⟨2, ![256, 512]⟩ ⟨2, ![4096, 512]⟩ 0 16 c WO) (c : Dev nD) :
    outOf m c = Layout.block ⟨3, ![2, 128, 512]⟩ ⟨3, ![2, 2048, 512]⟩ 1 16 c (Cert.ReferenceIdeal.Own.result X WQ K V WO) := by
  have place3 : ∀ (c : Fin 16) (b : Fin 2) (r : Fin 128) (i : Fin 512) (t : Layout.Tiles ⟨3, ![2, 128, 512]⟩ ⟨3, ![2, 2048, 512]⟩ 1 16),
      t.idx c (ix3 b r i) = ix3 b ⟨128 * c.val + r.val, by omega⟩ i := fun c b r i t => by
    funext a; match a with
    | 0 => rfl
    | 1 => exact Fin.ext (congrArg (· + r.val) (Nat.mul_comm c.val 128))
    | 2 => rfl
  have placeQ : ∀ (c : Fin 16) (i : Fin 512) (z : Fin 256) (t : Layout.Tiles ⟨2, ![512, 256]⟩ ⟨2, ![512, 4096]⟩ 1 16),
      t.idx c (ix2 i z) = ix2 i ⟨256 * c.val + z.val, by omega⟩ := fun c i z t => by
    funext a; match a with
    | 0 => rfl
    | 1 => exact Fin.ext (congrArg (· + z.val) (Nat.mul_comm c.val 256))
  have placeO : ∀ (c : Fin 16) (z : Fin 256) (e : Fin 512) (t : Layout.Tiles ⟨2, ![256, 512]⟩ ⟨2, ![4096, 512]⟩ 0 16),
      t.idx c (ix2 z e) = ix2 ⟨256 * c.val + z.val, by omega⟩ e := fun c z e t => by
    funext a; match a with
    | 0 => exact Fin.ext (congrArg (· + z.val) (Nat.mul_comm c.val 256))
    | 1 => rfl
  funext i
  rw [eq_ix3 i]
  refine (outOf_at m X WQ K V WO c (i 0) (i 1) (i 2) (fun z => ?_) (fun j a z => ?_) ?_ ?_ (fun j z => ?_)).trans ?_
  · exact (congrFun ((xOf_eq m c).trans (h c).1) _).trans (congrArg X (place3 c _ _ _ _))
  · exact (congrFun ((wqOf_eq m j).trans (h j).2.1) _).trans (congrArg WQ (placeQ j _ _ _))
  · exact (kOf_eq m c).trans (h c).2.2.1
  · exact (vOf_eq m c).trans (h c).2.2.2.1
  · exact (congrFun ((woOf_eq m j).trans (h j).2.2.2.2) _).trans (congrArg WO (placeO j _ _ _))
  · exact (congrArg (Cert.ReferenceIdeal.Own.result X WQ K V WO) (place3 c (i 0) (i 1) (i 2) _)).symm

end Cert.KernelIdeal.Own

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- What the kernel's run says of its arguments, for any float values: they end as they began, and so do the
semaphores. -/
theorem kernel_args {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : Cert.KernelIdeal.Own.QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
    ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
    ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
    ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
    ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  ⟨(h c (0 : Fin 6)).trans (Cert.KernelIdeal.Own.finalA_in m ρ c (0 : Fin 6) rfl), (h c (1 : Fin 6)).trans (Cert.KernelIdeal.Own.finalA_in m ρ c (1 : Fin 6) rfl),
    (h c (2 : Fin 6)).trans (Cert.KernelIdeal.Own.finalA_in m ρ c (2 : Fin 6) rfl), (h c (3 : Fin 6)).trans (Cert.KernelIdeal.Own.finalA_in m ρ c (3 : Fin 6) rfl),
    (h c (4 : Fin 6)).trans (Cert.KernelIdeal.Own.finalA_in m ρ c (4 : Fin 6) rfl)⟩

/-- The kernel runs, for any float values: it ends, with its arguments as they were and every semaphore at zero. -/
theorem kernel_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4))
      ∧ r.2.sem = fun _ => 0) :=
  (θ_run (Cert.KernelIdeal.defs (F := F)) _ _).mono (fun r h => ⟨fun c => kernel_args m ρ r h.1 c, h.2⟩) (Cert.KernelIdeal.Own.run_main (F := F) m ρ)

set_option maxRecDepth 16384 in
/-- The two kernels have the same text, so their bodies are the same program over the machine's floats. -/
theorem same_bodies : Cert.Kernel.defs₀ (F := Bits) = Cert.KernelIdeal.defs₀ (F := Bits) := by
  unfold Cert.Kernel.defs₀ Cert.KernelIdeal.defs₀
  refine congrArg (Defs.onTc (nD := 16) (τ := Cert.Kernel.τ) (sig := Cert.Kernel.sig) (Λ := Cert.Kernel.Λ₀)) (funext fun l => funext fun a => ?_)
  match l, a with
  | 0, (t, s) => rfl
  | ⟨_ + 1, h⟩, _ => exact absurd h (Nat.not_lt.2 (Nat.le_add_left _ _))

/-- So are their tables of pipelines. -/
theorem same_defs : Cert.KernelIdeal.defs (F := Bits) = Cert.Kernel.defs (F := Bits) := by
  unfold Cert.Kernel.defs Cert.KernelIdeal.defs
  exact congrArg (Pipeline.defs Cert.Kernel.pcfgs) same_bodies.symm

/-- The kernel runs, over the machine's floats. -/
theorem frame_kernel : Cert.quiescent_Kernel := fun m ρ _ =>
  (congrArg (fun D => θ_run D (onTc (τ := Cert.Kernel.τ) (Cert.Kernel.main (F := Bits))) ⟨m, fun _ => 0, ρ⟩ (fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1)
        ∧ r.2.mem ((c : Thread Cert.Kernel.nD Cert.Kernel.τ).loc Cert.Kernel.main_arg2) = m ((c : Thread Cert.Kernel.nD Cert.Kernel.τ).loc Cert.Kernel.main_arg2)
        ∧ r.2.mem ((c : Thread Cert.Kernel.nD Cert.Kernel.τ).loc Cert.Kernel.main_arg3) = m ((c : Thread Cert.Kernel.nD Cert.Kernel.τ).loc Cert.Kernel.main_arg3)
        ∧ r.2.mem ((c : Thread Cert.Kernel.nD Cert.Kernel.τ).loc Cert.Kernel.main_arg4) = m ((c : Thread Cert.Kernel.nD Cert.Kernel.τ).loc Cert.Kernel.main_arg4))
      ∧ r.2.sem = fun _ => 0)) same_defs).mp (kernel_frame (F := Bits) m ρ)

/-- The idealized kernel runs. -/
theorem frame_kernelIdeal : Cert.quiescent_KernelIdeal := fun m ρ _ => kernel_frame (F := Ideal) m ρ

/-- The idealized reference runs; it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run m ρ)

/-- The idealized kernel computes the idealized reference: each device ends with its block of the reference's result. -/
theorem algebraic : Cert.algebraic_KernelIdeal_ReferenceIdeal := fun m g m' g' _ h =>
  ⟨Cert.ReferenceIdeal.Value.res_main_v42 m' 0,
    (θ_run (Cert.KernelIdeal.defs (F := Ideal)) _ _).mono
      (fun r hr c => ⟨(hr.1 c (5 : Fin 6)).trans ((Cert.KernelIdeal.Own.finalA_out m g c).trans
          ((Cert.KernelIdeal.Own.outOf_block m _ _ _ _ _ h c).trans
            (congrArg (fun v => Layout.block ⟨3, ![2, 128, 512]⟩ ⟨3, ![2, 2048, 512]⟩ 1 16 c v)
              (Cert.ReferenceIdeal.Own.result_steps m' 0).symm))),
        kernel_args m g r hr.1 c⟩)
      (Cert.KernelIdeal.Own.run_main (F := Ideal) m g),
    (θ_run (Cert.ReferenceIdeal.defs (F := Ideal)) _ _).mono (fun r hr => hr 0) (Cert.ReferenceIdeal.Value.run m' g')⟩

/-- Everything claimed of the three programs. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
